-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_has_action [hPre_row_has_action : Cert.Pre_row_has_action.Facts] (m : (ℓ : Loc Cert.KernelIdeal.nD Cert.KernelIdeal.τ Cert.KernelIdeal.sig) → Buf (Elt Ideal) ℓ) : Prop :=
  ∀ c : Dev Cert.KernelIdeal.nD,
    (Cert.Pre_row_has_action.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_has_action [hPre_row_has_action : Cert.Pre_row_has_action.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_has_action.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_row_has_action [hKernelIdeal : Cert.KernelIdeal.Facts] [hPre_row_has_action : Cert.Pre_row_has_action.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_has_action m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_row_has_action [hReferenceIdeal : Cert.ReferenceIdeal.Facts] [hPre_row_has_action : Cert.Pre_row_has_action.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_has_action m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_row_has_action [hKernelIdeal : Cert.KernelIdeal.Facts] [hReferenceIdeal : Cert.ReferenceIdeal.Facts] [hPre_row_has_action : Cert.Pre_row_has_action.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_has_action m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_row_has_action : Cert.Pre_row_has_action.Facts),
    quiescent_Kernel (hKernel := hKernel)
    ∧ quiescent_KernelIdeal (hKernelIdeal := hKernelIdeal)
    ∧ quiescent_KernelIdeal_pre_row_has_action (hKernelIdeal := hKernelIdeal) (hPre_row_has_action := hPre_row_has_action)
    ∧ quiescent_ReferenceIdeal (hReferenceIdeal := hReferenceIdeal)
    ∧ quiescent_ReferenceIdeal_pre_row_has_action (hReferenceIdeal := hReferenceIdeal) (hPre_row_has_action := hPre_row_has_action)
    ∧ preserves_Kernel_KernelIdeal
    ∧ algebraic_KernelIdeal_ReferenceIdeal_pre_row_has_action (hKernelIdeal := hKernelIdeal) (hReferenceIdeal := hReferenceIdeal) (hPre_row_has_action := hPre_row_has_action)
-- ==== Pre_row_has_action.lean ====
abbrev S1024x100000 : Shape := ⟨2, ![1024, 100000]⟩
abbrev S100000x1 : Shape := ⟨2, ![100000, 1]⟩
abbrev S100000 : Shape := ⟨1, ![100000]⟩
abbrev S_ : Shape := ⟨0, ![]⟩
abbrev S1024 : Shape := ⟨1, ![1024]⟩

class Facts : Prop where
  reducesTo_S1024x100000_S1024_d1 : S1024x100000.ReducesTo [1] S1024
  h_S_ : 0 < S_.numel

variable [Facts]

def fn {F : FTy → Type} [FloatOps F] (main_arg0 : IVec S1024x100000 1) (main_arg1 : FVec F S100000x1 .f32) (main_arg2 : FVec F S100000 .f32) : IVec S1024 1 :=
  let main_c : IVec S_ 1 := constantI S_ 1 0#1
  let main_v0 : IVec S1024 1 := (fun x v => Host.reduce IntOp.ori x v reducesTo_S1024x100000_S1024_d1 h_S_) main_arg0 main_c
  main_v0
-- ==== Kernel.lean ====
abbrev S1024x100000 : Shape := ⟨2, ![1024, 100000]⟩
abbrev S100000x1 : Shape := ⟨2, ![100000, 1]⟩
abbrev S100000 : Shape := ⟨1, ![100000]⟩
abbrev S1024x1 : Shape := ⟨2, ![1024, 1]⟩
abbrev S8x100000 : Shape := ⟨2, ![8, 100000]⟩
abbrev S8x1 : Shape := ⟨2, ![8, 1]⟩
abbrev S8 : Shape := ⟨1, ![8]⟩
abbrev S1024 : Shape := ⟨1, ![1024]⟩

abbrev nBuf : Space → Nat
  | .hbm => 8
  | .vmem => 6
  | .smem => 0
  | _ => 0

abbrev bufTy : (tb : Table) → Fin (tcTables nBuf tb) → BufTy
  | .hbm, ⟨0, _⟩ => ⟨S1024x100000, .i1⟩
  | .hbm, ⟨1, _⟩ => ⟨S100000x1, .f32⟩
  | .hbm, ⟨2, _⟩ => ⟨S100000, .f32⟩
  | .hbm, ⟨3, _⟩ => ⟨S1024x100000, .i32⟩
  | .hbm, ⟨4, _⟩ => ⟨S1024x1, .i32⟩
  | .hbm, ⟨5, _⟩ => ⟨S1024x1, .f32⟩
  | .hbm, ⟨6, _⟩ => ⟨S1024, .i32⟩
  | .hbm, ⟨7, _⟩ => ⟨S1024, .f32⟩
  | .local _ .vmem, ⟨0, _⟩ => ⟨S8x100000, .i32⟩
  | .local _ .vmem, ⟨1, _⟩ => ⟨S8x100000, .i32⟩
  | .local _ .vmem, ⟨2, _⟩ => ⟨S8x1, .i32⟩
  | .local _ .vmem, ⟨3, _⟩ => ⟨S8x1, .i32⟩
  | .local _ .vmem, ⟨4, _⟩ => ⟨S8x1, .f32⟩
  | .local _ .vmem, ⟨5, _⟩ => ⟨S8x1, .f32⟩
  | _, _ => ⟨S1024x100000, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x100000 : Shape := ⟨2, ![1024, 100000]⟩
abbrev S100000x1 : Shape := ⟨2, ![100000, 1]⟩
abbrev S100000 : Shape := ⟨1, ![100000]⟩
abbrev S_ : Shape := ⟨0, ![]⟩
abbrev S1 : Shape := ⟨1, ![1]⟩
abbrev S2 : Shape := ⟨1, ![2]⟩
abbrev S1x1 : Shape := ⟨2, ![1, 1]⟩
abbrev S1024 : Shape := ⟨1, ![1024]⟩
abbrev S1024x1 : Shape := ⟨2, ![1024, 1]⟩
abbrev S1024x1x1 : Shape := ⟨3, ![1024, 1, 1]⟩
abbrev S1x1x1 : Shape := ⟨3, ![1, 1, 1]⟩

abbrev nBuf : Space → Nat
  | .hbm => 330
  | .vmem => 0
  | .smem => 0
  | _ => 0

abbrev hbmTy0_0 (i : Nat) : BufTy := match i % 128 with
  | 0 => ⟨S1024x100000, .i1⟩
  | 1 => ⟨S100000x1, .f32⟩
  | 2 => ⟨S100000, .f32⟩
  | 3 => ⟨S_, .f32⟩
  | 4 => ⟨S_, .f32⟩
  | 5 => ⟨S1024x100000, .f32⟩
  | 6 => ⟨S1024x100000, .f32⟩
  | 7 => ⟨S1024x100000, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S1024x100000, .i64⟩
  | 28 => ⟨S1024x100000, .i64⟩
  | 29 => ⟨S_, .i64⟩
  | 30 => ⟨S1024x100000, .i64⟩
  | 31 => ⟨S1024x100000, .i64⟩
  | 32 => ⟨S_, .i64⟩
  | 33 => ⟨S1024x100000, .i64⟩
  | 34 => ⟨S1024x100000, .i64⟩
  | 35 => ⟨S1024x100000, .i64⟩
  | 36 => ⟨S_, .i64⟩
  | 37 => ⟨S1024x100000, .i64⟩
  | 38 => ⟨S1024x100000, .i64⟩
  | 39 => ⟨S1024x100000, .i32⟩
  | 40 => ⟨S1024x100000, .i32⟩
  | 41 => ⟨S_, .i32⟩
  | 42 => ⟨S_, .i32⟩
  | 43 => ⟨S_, .i32⟩
  | 44 => ⟨S1024x100000, .i32⟩
  | 45 => ⟨S1024x100000, .i32⟩
  | 46 => ⟨S1024x100000, .i32⟩
  | 47 => ⟨S1024x100000, .i32⟩
  | 48 => ⟨S1024x100000, .i32⟩
  | 49 => ⟨S_, .i32⟩
  | 50 => ⟨S1024x100000, .i32⟩
  | 51 => ⟨S1024x100000, .i32⟩
  | 52 => ⟨S_, .i32⟩
  | 53 => ⟨S1024x100000, .i32⟩
  | 54 => ⟨S1024x100000, .i32⟩
  | 55 => ⟨S1024x100000, .i32⟩
  | 56 => ⟨S1024x100000, .i32⟩
  | 57 => ⟨S1024x100000, .i32⟩
  | 58 => ⟨S_, .i32⟩
  | 59 => ⟨S1024x100000, .i32⟩
  | 60 => ⟨S1024x100000, .i32⟩
  | 61 => ⟨S_, .i32⟩
  | 62 => ⟨S1024x100000, .i32⟩
  | 63 => ⟨S1024x100000, .i32⟩
  | 64 => ⟨S1024x100000, .i32⟩
  | 65 => ⟨S1024x100000, .i32⟩
  | 66 => ⟨S1024x100000, .i32⟩
  | 67 => ⟨S_, .i32⟩
  | 68 => ⟨S1024x100000, .i32⟩
  | 69 => ⟨S1024x100000, .i32⟩
  | 70 => ⟨S_, .i32⟩
  | 71 => ⟨S1024x100000, .i32⟩
  | 72 => ⟨S1024x100000, .i32⟩
  | 73 => ⟨S1024x100000, .i32⟩
  | 74 => ⟨S1024x100000, .i32⟩
  | 75 => ⟨S1024x100000, .i32⟩
  | 76 => ⟨S_, .i32⟩
  | 77 => ⟨S1024x100000, .i32⟩
  | 78 => ⟨S1024x100000, .i32⟩
  | 79 => ⟨S_, .i32⟩
  | 80 => ⟨S1024x100000, .i32⟩
  | 81 => ⟨S1024x100000, .i32⟩
  | 82 => ⟨S1024x100000, .i32⟩
  | 83 => ⟨S1024x100000, .i32⟩
  | 84 => ⟨S1024x100000, .i32⟩
  | 85 => ⟨S1024x100000, .i32⟩
  | 86 => ⟨S1024x100000, .i32⟩
  | 87 => ⟨S1024x100000, .i32⟩
  | 88 => ⟨S_, .i32⟩
  | 89 => ⟨S1024x100000, .i32⟩
  | 90 => ⟨S1024x100000, .i32⟩
  | 91 => ⟨S1024x100000, .i32⟩
  | 92 => ⟨S_, .i32⟩
  | 93 => ⟨S1024x100000, .i32⟩
  | 94 => ⟨S1024x100000, .i32⟩
  | 95 => ⟨S_, .i32⟩
  | 96 => ⟨S1024x100000, .i32⟩
  | 97 => ⟨S1024x100000, .i32⟩
  | 98 => ⟨S1024x100000, .i32⟩
  | 99 => ⟨S1024x100000, .i32⟩
  | 100 => ⟨S1024x100000, .i32⟩
  | 101 => ⟨S_, .i32⟩
  | 102 => ⟨S1024x100000, .i32⟩
  | 103 => ⟨S1024x100000, .i32⟩
  | 104 => ⟨S_, .i32⟩
  | 105 => ⟨S1024x100000, .i32⟩
  | 106 => ⟨S1024x100000, .i32⟩
  | 107 => ⟨S1024x100000, .i32⟩
  | 108 => ⟨S1024x100000, .i32⟩
  | 109 => ⟨S1024x100000, .i32⟩
  | 110 => ⟨S_, .i32⟩
  | 111 => ⟨S1024x100000, .i32⟩
  | 112 => ⟨S1024x100000, .i32⟩
  | 113 => ⟨S_, .i32⟩
  | 114 => ⟨S1024x100000, .i32⟩
  | 115 => ⟨S1024x100000, .i32⟩
  | 116 => ⟨S1024x100000, .i32⟩
  | 117 => ⟨S1024x100000, .i32⟩
  | 118 => ⟨S1024x100000, .i32⟩
  | 119 => ⟨S_, .i32⟩
  | 120 => ⟨S1024x100000, .i32⟩
  | 121 => ⟨S1024x100000, .i32⟩
  | 122 => ⟨S_, .i32⟩
  | 123 => ⟨S1024x100000, .i32⟩
  | 124 => ⟨S1024x100000, .i32⟩
  | 125 => ⟨S1024x100000, .i32⟩
  | 126 => ⟨S1024x100000, .i32⟩
  | 127 => ⟨S1024x100000, .i32⟩
  | _ => ⟨S1024x100000, .i1⟩

abbrev hbmTy0_1 (i : Nat) : BufTy := match i % 128 with
  | 0 => ⟨S1024x100000, .i32⟩
  | 1 => ⟨S1024x100000, .i32⟩
  | 2 => ⟨S1024x100000, .i32⟩
  | 3 => ⟨S_, .i32⟩
  | 4 => ⟨S1024x100000, .i32⟩
  | 5 => ⟨S1024x100000, .i32⟩
  | 6 => ⟨S1024x100000, .i32⟩
  | 7 => ⟨S_, .i32⟩
  | 8 => ⟨S1024x100000, .i32⟩
  | 9 => ⟨S1024x100000, .i32⟩
  | 10 => ⟨S_, .i32⟩
  | 11 => ⟨S1024x100000, .i32⟩
  | 12 => ⟨S1024x100000, .i32⟩
  | 13 => ⟨S1024x100000, .i32⟩
  | 14 => ⟨S1024x100000, .i32⟩
  | 15 => ⟨S1024x100000, .i32⟩
  | 16 => ⟨S_, .i32⟩
  | 17 => ⟨S1024x100000, .i32⟩
  | 18 => ⟨S1024x100000, .i32⟩
  | 19 => ⟨S_, .i32⟩
  | 20 => ⟨S1024x100000, .i32⟩
  | 21 => ⟨S1024x100000, .i32⟩
  | 22 => ⟨S1024x100000, .i32⟩
  | 23 => ⟨S1024x100000, .i32⟩
  | 24 => ⟨S1024x100000, .i32⟩
  | 25 => ⟨S_, .i32⟩
  | 26 => ⟨S1024x100000, .i32⟩
  | 27 => ⟨S1024x100000, .i32⟩
  | 28 => ⟨S_, .i32⟩
  | 29 => ⟨S1024x100000, .i32⟩
  | 30 => ⟨S1024x100000, .i32⟩
  | 31 => ⟨S1024x100000, .i32⟩
  | 32 => ⟨S1024x100000, .i32⟩
  | 33 => ⟨S1024x100000, .i32⟩
  | 34 => ⟨S_, .i32⟩
  | 35 => ⟨S1024x100000, .i32⟩
  | 36 => ⟨S1024x100000, .i32⟩
  | 37 => ⟨S_, .i32⟩
  | 38 => ⟨S1024x100000, .i32⟩
  | 39 => ⟨S1024x100000, .i32⟩
  | 40 => ⟨S1024x100000, .i32⟩
  | 41 => ⟨S1024x100000, .i32⟩
  | 42 => ⟨S1024x100000, .i32⟩
  | 43 => ⟨S1024x100000, .i32⟩
  | 44 => ⟨S1024x100000, .i32⟩
  | 45 => ⟨S1024x100000, .i32⟩
  | 46 => ⟨S_, .i32⟩
  | 47 => ⟨S1024x100000, .i32⟩
  | 48 => ⟨S1024x100000, .i32⟩
  | 49 => ⟨S1024x100000, .i32⟩
  | 50 => ⟨S_, .i32⟩
  | 51 => ⟨S1024x100000, .i32⟩
  | 52 => ⟨S1024x100000, .i32⟩
  | 53 => ⟨S_, .i32⟩
  | 54 => ⟨S1024x100000, .i32⟩
  | 55 => ⟨S1024x100000, .i32⟩
  | 56 => ⟨S1024x100000, .i32⟩
  | 57 => ⟨S1024x100000, .i32⟩
  | 58 => ⟨S1024x100000, .i32⟩
  | 59 => ⟨S_, .i32⟩
  | 60 => ⟨S1024x100000, .i32⟩
  | 61 => ⟨S1024x100000, .i32⟩
  | 62 => ⟨S_, .i32⟩
  | 63 => ⟨S1024x100000, .i32⟩
  | 64 => ⟨S1024x100000, .i32⟩
  | 65 => ⟨S1024x100000, .i32⟩
  | 66 => ⟨S1024x100000, .i32⟩
  | 67 => ⟨S1024x100000, .i32⟩
  | 68 => ⟨S_, .i32⟩
  | 69 => ⟨S1024x100000, .i32⟩
  | 70 => ⟨S1024x100000, .i32⟩
  | 71 => ⟨S_, .i32⟩
  | 72 => ⟨S1024x100000, .i32⟩
  | 73 => ⟨S1024x100000, .i32⟩
  | 74 => ⟨S1024x100000, .i32⟩
  | 75 => ⟨S1024x100000, .i32⟩
  | 76 => ⟨S1024x100000, .i32⟩
  | 77 => ⟨S_, .i32⟩
  | 78 => ⟨S1024x100000, .i32⟩
  | 79 => ⟨S1024x100000, .i32⟩
  | 80 => ⟨S_, .i32⟩
  | 81 => ⟨S1024x100000, .i32⟩
  | 82 => ⟨S1024x100000, .i32⟩
  | 83 => ⟨S1024x100000, .i32⟩
  | 84 => ⟨S1024x100000, .i32⟩
  | 85 => ⟨S1024x100000, .i32⟩
  | 86 => ⟨S1024x100000, .i32⟩
  | 87 => ⟨S1024x100000, .i32⟩
  | 88 => ⟨S1024x100000, .i32⟩
  | 89 => ⟨S_, .i32⟩
  | 90 => ⟨S1024x100000, .i32⟩
  | 91 => ⟨S1024x100000, .i32⟩
  | 92 => ⟨S1024x100000, .i32⟩
  | 93 => ⟨S_, .i32⟩
  | 94 => ⟨S1024x100000, .i32⟩
  | 95 => ⟨S1024x100000, .i32⟩
  | 96 => ⟨S_, .i32⟩
  | 97 => ⟨S1024x100000, .i32⟩
  | 98 => ⟨S1024x100000, .i32⟩
  | 99 => ⟨S1024x100000, .i32⟩
  | 100 => ⟨S1024x100000, .i32⟩
  | 101 => ⟨S1024x100000, .i32⟩
  | 102 => ⟨S_, .i32⟩
  | 103 => ⟨S1024x100000, .i32⟩
  | 104 => ⟨S1024x100000, .i32⟩
  | 105 => ⟨S_, .i32⟩
  | 106 => ⟨S1024x100000, .i32⟩
  | 107 => ⟨S1024x100000, .i32⟩
  | 108 => ⟨S1024x100000, .i32⟩
  | 109 => ⟨S1024x100000, .i32⟩
  | 110 => ⟨S1024x100000, .i32⟩
  | 111 => ⟨S_, .i32⟩
  | 112 => ⟨S1024x100000, .i32⟩
  | 113 => ⟨S1024x100000, .i32⟩
  | 114 => ⟨S_, .i32⟩
  | 115 => ⟨S1024x100000, .i32⟩
  | 116 => ⟨S1024x100000, .i32⟩
  | 117 => ⟨S1024x100000, .i32⟩
  | 118 => ⟨S1024x100000, .i32⟩
  | 119 => ⟨S1024x100000, .i32⟩
  | 120 => ⟨S_, .i32⟩
  | 121 => ⟨S1024x100000, .i32⟩
  | 122 => ⟨S1024x100000, .i32⟩
  | 123 => ⟨S_, .i32⟩
  | 124 => ⟨S1024x100000, .i32⟩
  | 125 => ⟨S1024x100000, .i32⟩
  | 126 => ⟨S1024x100000, .i32⟩
  | 127 => ⟨S1024x100000, .i32⟩
  | _ => ⟨S1024x100000, .i1⟩

abbrev hbmTy0_2 (i : Nat) : BufTy := match i % 128 with
  | 0 => ⟨S1024x100000, .i32⟩
  | 1 => ⟨S1024x100000, .i32⟩
  | 2 => ⟨S1024x100000, .i32⟩
  | 3 => ⟨S1024x100000, .i32⟩
  | 4 => ⟨S_, .i32⟩
  | 5 => ⟨S1024x100000, .i32⟩
  | 6 => ⟨S1024x100000, .i32⟩
  | 7 => ⟨S1024x100000, .i32⟩
  | 8 => ⟨S_, .i32⟩
  | 9 => ⟨S1024x100000, .i32⟩
  | 10 => ⟨S1024x100000, .i32⟩
  | 11 => ⟨S_, .i32⟩
  | 12 => ⟨S1024x100000, .i32⟩
  | 13 => ⟨S1024x100000, .i32⟩
  | 14 => ⟨S1024x100000, .f32⟩
  | 15 => ⟨S_, .f32⟩
  | 16 => ⟨S1024x100000, .f32⟩
  | 17 => ⟨S1024x100000, .f32⟩
  | 18 => ⟨S1x1, .f32⟩
  | 19 => ⟨S1024x100000, .f32⟩
  | 20 => ⟨S1024x100000, .f32⟩
  | 21 => ⟨S1024x100000, .f32⟩
  | 22 => ⟨S1024x100000, .f32⟩
  | 23 => ⟨S1024x100000, .f32⟩
  | 24 => ⟨S1024x100000, .f32⟩
  | 25 => ⟨S1024x100000, .f32⟩
  | 26 => ⟨S1024x100000, .f32⟩
  | 27 => ⟨S1024x100000, .f32⟩
  | 28 => ⟨S1024x100000, .f32⟩
  | 29 => ⟨S1024x100000, .f32⟩
  | 30 => ⟨S1024x100000, .i32⟩
  | 31 => ⟨S_, .f32⟩
  | 32 => ⟨S_, .i32⟩
  | 33 => ⟨S1024, .f32⟩
  | 34 => ⟨S1024, .i32⟩
  | 35 => ⟨S_, .f32⟩
  | 36 => ⟨S1024, .f32⟩
  | 37 => ⟨S_, .f32⟩
  | 38 => ⟨S1024, .f32⟩
  | 39 => ⟨S1024, .f32⟩
  | 40 => ⟨S1024x1, .f32⟩
  | 41 => ⟨S1024x100000, .f32⟩
  | 42 => ⟨S1024x100000, .f32⟩
  | 43 => ⟨S1024x100000, .f32⟩
  | 44 => ⟨S_, .f32⟩
  | 45 => ⟨S1024, .f32⟩
  | 46 => ⟨S1024x1, .f32⟩
  | 47 => ⟨S1024x1, .f32⟩
  | 48 => ⟨S1024x100000, .f32⟩
  | 49 => ⟨S1024x100000, .f32⟩
  | 50 => ⟨S1024x1, .i32⟩
  | 51 => ⟨S_, .i32⟩
  | 52 => ⟨S1024x1, .i32⟩
  | 53 => ⟨S1024x1, .i1⟩
  | 54 => ⟨S_, .i32⟩
  | 55 => ⟨S1024x1, .i32⟩
  | 56 => ⟨S1024x1, .i32⟩
  | 57 => ⟨S1024x1, .i32⟩
  | 58 => ⟨S1024x1x1, .i32⟩
  | 59 => ⟨S1, .i32⟩
  | 60 => ⟨S_, .i32⟩
  | 61 => ⟨S1024x1x1, .i32⟩
  | 62 => ⟨S1024x1x1, .i1⟩
  | 63 => ⟨S1x1x1, .i32⟩
  | 64 => ⟨S1024x1x1, .i32⟩
  | 65 => ⟨S1024x1x1, .i1⟩
  | 66 => ⟨S1024x1x1, .i1⟩
  | 67 => ⟨S_, .i1⟩
  | 68 => ⟨S1024x1, .i1⟩
  | 69 => ⟨S1024x1, .f32⟩
  | 70 => ⟨S_, .f32⟩
  | 71 => ⟨S1024x1, .f32⟩
  | 72 => ⟨S1024x1, .f32⟩
  | 73 => ⟨S1024, .f32⟩
  | _ => ⟨S1024x100000, .i1⟩

abbrev hbmTy (i : Nat) : BufTy := match i / 128 with
  | 0 => hbmTy0_0 i
  | 1 => hbmTy0_1 i
  | 2 => hbmTy0_2 i
  | _ => ⟨S1024x100000, .i1⟩

abbrev bufTy : (tb : Table) → Fin (tcTables nBuf tb) → BufTy
  | .hbm, ⟨i, _⟩ => hbmTy i
  | _, _ => ⟨S1024x100000, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_c : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_cst_0 : Ref sig .tc := ⟨.hbm, 19, rfl⟩
abbrev main_call1_call0_v0 : Ref sig .tc := ⟨.hbm, 20, rfl⟩
abbrev main_call1_call0_v1 : Ref sig .tc := ⟨.hbm, 21, rfl⟩
abbrev main_call1_call0_v2 : Ref sig .tc := ⟨.hbm, 22, rfl⟩
abbrev main_call1_call0_v3 : Ref sig .tc := ⟨.hbm, 23, rfl⟩
abbrev main_call1_call0_v4 : Ref sig .tc := ⟨.hbm, 24, rfl⟩
abbrev main_call1_call0_v5 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_v8 : Ref sig .tc := ⟨.hbm, 28, rfl⟩
abbrev main_call1_call0_c : Ref sig .tc := ⟨.hbm, 29, rfl⟩
abbrev main_call1_call0_v9 : Ref sig .tc := ⟨.hbm, 30, rfl⟩
abbrev main_call1_call0_v10 : Ref sig .tc := ⟨.hbm, 31, rfl⟩
abbrev main_call1_call0_c_0 : Ref sig .tc := ⟨.hbm, 32, rfl⟩
abbrev main_call1_call0_v11 : Ref sig .tc := ⟨.hbm, 33, rfl⟩
abbrev main_call1_call0_v12 : Ref sig .tc := ⟨.hbm, 34, rfl⟩
abbrev main_call1_call0_v13 : Ref sig .tc := ⟨.hbm, 35, rfl⟩
abbrev main_call1_call0_c_1 : Ref sig .tc := ⟨.hbm, 36, rfl⟩
abbrev main_call1_call0_v14 : Ref sig .tc := ⟨.hbm, 37, rfl⟩
abbrev main_call1_call0_v15 : Ref sig .tc := ⟨.hbm, 38, rfl⟩
abbrev main_call1_call0_v16 : Ref sig .tc := ⟨.hbm, 39, rfl⟩
abbrev main_call1_call0_v17 : Ref sig .tc := ⟨.hbm, 40, rfl⟩
abbrev main_call1_call0_call0_v0 : Ref sig .tc := ⟨.hbm, 41, rfl⟩
abbrev main_call1_call0_call0_c : Ref sig .tc := ⟨.hbm, 42, rfl⟩
abbrev main_call1_call0_call0_v1 : Ref sig .tc := ⟨.hbm, 43, rfl⟩
abbrev main_call1_call0_call0_v2 : Ref sig .tc := ⟨.hbm, 44, rfl⟩
abbrev main_call1_call0_call0_v3 : Ref sig .tc := ⟨.hbm, 45, rfl⟩
abbrev main_call1_call0_call0_v4 : Ref sig .tc := ⟨.hbm, 46, rfl⟩
abbrev main_call1_call0_call0_v5 : Ref sig .tc := ⟨.hbm, 47, rfl⟩
abbrev main_call1_call0_call0_v6 : Ref sig .tc := ⟨.hbm, 48, rfl⟩
abbrev main_call1_call0_call0_c_0 : Ref sig .tc := ⟨.hbm, 49, rfl⟩
abbrev main_call1_call0_call0_v7 : Ref sig .tc := ⟨.hbm, 50, rfl⟩
abbrev main_call1_call0_call0_v8 : Ref sig .tc := ⟨.hbm, 51, rfl⟩
abbrev main_call1_call0_call0_c_1 : Ref sig .tc := ⟨.hbm, 52, rfl⟩
abbrev main_call1_call0_call0_v9 : Ref sig .tc := ⟨.hbm, 53, rfl⟩
abbrev main_call1_call0_call0_v10 : Ref sig .tc := ⟨.hbm, 54, rfl⟩
abbrev main_call1_call0_call0_v11 : Ref sig .tc := ⟨.hbm, 55, rfl⟩
abbrev main_call1_call0_call0_v12 : Ref sig .tc := ⟨.hbm, 56, rfl⟩
abbrev main_call1_call0_call0_v13 : Ref sig .tc := ⟨.hbm, 57, rfl⟩
abbrev main_call1_call0_call0_c_2 : Ref sig .tc := ⟨.hbm, 58, rfl⟩
abbrev main_call1_call0_call0_v14 : Ref sig .tc := ⟨.hbm, 59, rfl⟩
abbrev main_call1_call0_call0_v15 : Ref sig .tc := ⟨.hbm, 60, rfl⟩
abbrev main_call1_call0_call0_c_3 : Ref sig .tc := ⟨.hbm, 61, rfl⟩
abbrev main_call1_call0_call0_v16 : Ref sig .tc := ⟨.hbm, 62, rfl⟩
abbrev main_call1_call0_call0_v17 : Ref sig .tc := ⟨.hbm, 63, rfl⟩
abbrev main_call1_call0_call0_v18 : Ref sig .tc := ⟨.hbm, 64, rfl⟩
abbrev main_call1_call0_call0_v19 : Ref sig .tc := ⟨.hbm, 65, rfl⟩
abbrev main_call1_call0_call0_v20 : Ref sig .tc := ⟨.hbm, 66, rfl⟩
abbrev main_call1_call0_call0_c_4 : Ref sig .tc := ⟨.hbm, 67, rfl⟩
abbrev main_call1_call0_call0_v21 : Ref sig .tc := ⟨.hbm, 68, rfl⟩
abbrev main_call1_call0_call0_v22 : Ref sig .tc := ⟨.hbm, 69, rfl⟩
abbrev main_call1_call0_call0_c_5 : Ref sig .tc := ⟨.hbm, 70, rfl⟩
abbrev main_call1_call0_call0_v23 : Ref sig .tc := ⟨.hbm, 71, rfl⟩
abbrev main_call1_call0_call0_v24 : Ref sig .tc := ⟨.hbm, 72, rfl⟩
abbrev main_call1_call0_call0_v25 : Ref sig .tc := ⟨.hbm, 73, rfl⟩
abbrev main_call1_call0_call0_v26 : Ref sig .tc := ⟨.hbm, 74, rfl⟩
abbrev main_call1_call0_call0_v27 : Ref sig .tc := ⟨.hbm, 75, rfl⟩
abbrev main_call1_call0_call0_c_6 : Ref sig .tc := ⟨.hbm, 76, rfl⟩
abbrev main_call1_call0_call0_v28 : Ref sig .tc := ⟨.hbm, 77, rfl⟩
abbrev main_call1_call0_call0_v29 : Ref sig .tc := ⟨.hbm, 78, rfl⟩
abbrev main_call1_call0_call0_c_7 : Ref sig .tc := ⟨.hbm, 79, rfl⟩
abbrev main_call1_call0_call0_v30 : Ref sig .tc := ⟨.hbm, 80, rfl⟩
abbrev main_call1_call0_call0_v31 : Ref sig .tc := ⟨.hbm, 81, rfl⟩
abbrev main_call1_call0_call0_v32 : Ref sig .tc := ⟨.hbm, 82, rfl⟩
abbrev main_call1_call0_call0_v33 : Ref sig .tc := ⟨.hbm, 83, rfl⟩
abbrev main_call1_call0_call0_v34 : Ref sig .tc := ⟨.hbm, 84, rfl⟩
abbrev main_call1_call0_call0_v35 : Ref sig .tc := ⟨.hbm, 85, rfl⟩
abbrev main_call1_call0_call0_v36 : Ref sig .tc := ⟨.hbm, 86, rfl⟩
abbrev main_call1_call0_call0_v37 : Ref sig .tc := ⟨.hbm, 87, rfl⟩
abbrev main_call1_call0_call0_c_8 : Ref sig .tc := ⟨.hbm, 88, rfl⟩
abbrev main_call1_call0_call0_v38 : Ref sig .tc := ⟨.hbm, 89, rfl⟩
abbrev main_call1_call0_call0_v39 : Ref sig .tc := ⟨.hbm, 90, rfl⟩
abbrev main_call1_call0_call0_v40 : Ref sig .tc := ⟨.hbm, 91, rfl⟩
abbrev main_call1_call0_call0_c_9 : Ref sig .tc := ⟨.hbm, 92, rfl⟩
abbrev main_call1_call0_call0_v41 : Ref sig .tc := ⟨.hbm, 93, rfl⟩
abbrev main_call1_call0_call0_v42 : Ref sig .tc := ⟨.hbm, 94, rfl⟩
abbrev main_call1_call0_call0_c_10 : Ref sig .tc := ⟨.hbm, 95, rfl⟩
abbrev main_call1_call0_call0_v43 : Ref sig .tc := ⟨.hbm, 96, rfl⟩
abbrev main_call1_call0_call0_v44 : Ref sig .tc := ⟨.hbm, 97, rfl⟩
abbrev main_call1_call0_call0_v45 : Ref sig .tc := ⟨.hbm, 98, rfl⟩
abbrev main_call1_call0_call0_v46 : Ref sig .tc := ⟨.hbm, 99, rfl⟩
abbrev main_call1_call0_call0_v47 : Ref sig .tc := ⟨.hbm, 100, rfl⟩
abbrev main_call1_call0_call0_c_11 : Ref sig .tc := ⟨.hbm, 101, rfl⟩
abbrev main_call1_call0_call0_v48 : Ref sig .tc := ⟨.hbm, 102, rfl⟩
abbrev main_call1_call0_call0_v49 : Ref sig .tc := ⟨.hbm, 103, rfl⟩
abbrev main_call1_call0_call0_c_12 : Ref sig .tc := ⟨.hbm, 104, rfl⟩
abbrev main_call1_call0_call0_v50 : Ref sig .tc := ⟨.hbm, 105, rfl⟩
abbrev main_call1_call0_call0_v51 : Ref sig .tc := ⟨.hbm, 106, rfl⟩
abbrev main_call1_call0_call0_v52 : Ref sig .tc := ⟨.hbm, 107, rfl⟩
abbrev main_call1_call0_call0_v53 : Ref sig .tc := ⟨.hbm, 108, rfl⟩
abbrev main_call1_call0_call0_v54 : Ref sig .tc := ⟨.hbm, 109, rfl⟩
abbrev main_call1_call0_call0_c_13 : Ref sig .tc := ⟨.hbm, 110, rfl⟩
abbrev main_call1_call0_call0_v55 : Ref sig .tc := ⟨.hbm, 111, rfl⟩
abbrev main_call1_call0_call0_v56 : Ref sig .tc := ⟨.hbm, 112, rfl⟩
abbrev main_call1_call0_call0_c_14 : Ref sig .tc := ⟨.hbm, 113, rfl⟩
abbrev main_call1_call0_call0_v57 : Ref sig .tc := ⟨.hbm, 114, rfl⟩
abbrev main_call1_call0_call0_v58 : Ref sig .tc := ⟨.hbm, 115, rfl⟩
abbrev main_call1_call0_call0_v59 : Ref sig .tc := ⟨.hbm, 116, rfl⟩
abbrev main_call1_call0_call0_v60 : Ref sig .tc := ⟨.hbm, 117, rfl⟩
abbrev main_call1_call0_call0_v61 : Ref sig .tc := ⟨.hbm, 118, rfl⟩
abbrev main_call1_call0_call0_c_15 : Ref sig .tc := ⟨.hbm, 119, rfl⟩
abbrev main_call1_call0_call0_v62 : Ref sig .tc := ⟨.hbm, 120, rfl⟩
abbrev main_call1_call0_call0_v63 : Ref sig .tc := ⟨.hbm, 121, rfl⟩
abbrev main_call1_call0_call0_c_16 : Ref sig .tc := ⟨.hbm, 122, rfl⟩
abbrev main_call1_call0_call0_v64 : Ref sig .tc := ⟨.hbm, 123, rfl⟩
abbrev main_call1_call0_call0_v65 : Ref sig .tc := ⟨.hbm, 124, rfl⟩
abbrev main_call1_call0_call0_v66 : Ref sig .tc := ⟨.hbm, 125, rfl⟩
abbrev main_call1_call0_call0_v67 : Ref sig .tc := ⟨.hbm, 126, rfl⟩
abbrev main_call1_call0_call0_v68 : Ref sig .tc := ⟨.hbm, 127, rfl⟩
abbrev main_call1_call0_call0_v69 : Ref sig .tc := ⟨.hbm, 128, rfl⟩
abbrev main_call1_call0_call0_v70 : Ref sig .tc := ⟨.hbm, 129, rfl⟩
abbrev main_call1_call0_call0_v71 : Ref sig .tc := ⟨.hbm, 130, rfl⟩
abbrev main_call1_call0_call0_c_17 : Ref sig .tc := ⟨.hbm, 131, rfl⟩
abbrev main_call1_call0_call0_v72 : Ref sig .tc := ⟨.hbm, 132, rfl⟩
abbrev main_call1_call0_call0_v73 : Ref sig .tc := ⟨.hbm, 133, rfl⟩
abbrev main_call1_call0_call0_v74 : Ref sig .tc := ⟨.hbm, 134, rfl⟩
abbrev main_call1_call0_call0_c_18 : Ref sig .tc := ⟨.hbm, 135, rfl⟩
abbrev main_call1_call0_call0_v75 : Ref sig .tc := ⟨.hbm, 136, rfl⟩
abbrev main_call1_call0_call0_v76 : Ref sig .tc := ⟨.hbm, 137, rfl⟩
abbrev main_call1_call0_call0_c_19 : Ref sig .tc := ⟨.hbm, 138, rfl⟩
abbrev main_call1_call0_call0_v77 : Ref sig .tc := ⟨.hbm, 139, rfl⟩
abbrev main_call1_call0_call0_v78 : Ref sig .tc := ⟨.hbm, 140, rfl⟩
abbrev main_call1_call0_call0_v79 : Ref sig .tc := ⟨.hbm, 141, rfl⟩
abbrev main_call1_call0_call0_v80 : Ref sig .tc := ⟨.hbm, 142, rfl⟩
abbrev main_call1_call0_call0_v81 : Ref sig .tc := ⟨.hbm, 143, rfl⟩
abbrev main_call1_call0_call0_c_20 : Ref sig .tc := ⟨.hbm, 144, rfl⟩
abbrev main_call1_call0_call0_v82 : Ref sig .tc := ⟨.hbm, 145, rfl⟩
abbrev main_call1_call0_call0_v83 : Ref sig .tc := ⟨.hbm, 146, rfl⟩
abbrev main_call1_call0_call0_c_21 : Ref sig .tc := ⟨.hbm, 147, rfl⟩
abbrev main_call1_call0_call0_v84 : Ref sig .tc := ⟨.hbm, 148, rfl⟩
abbrev main_call1_call0_call0_v85 : Ref sig .tc := ⟨.hbm, 149, rfl⟩
abbrev main_call1_call0_call0_v86 : Ref sig .tc := ⟨.hbm, 150, rfl⟩
abbrev main_call1_call0_call0_v87 : Ref sig .tc := ⟨.hbm, 151, rfl⟩
abbrev main_call1_call0_call0_v88 : Ref sig .tc := ⟨.hbm, 152, rfl⟩
abbrev main_call1_call0_call0_c_22 : Ref sig .tc := ⟨.hbm, 153, rfl⟩
abbrev main_call1_call0_call0_v89 : Ref sig .tc := ⟨.hbm, 154, rfl⟩
abbrev main_call1_call0_call0_v90 : Ref sig .tc := ⟨.hbm, 155, rfl⟩
abbrev main_call1_call0_call0_c_23 : Ref sig .tc := ⟨.hbm, 156, rfl⟩
abbrev main_call1_call0_call0_v91 : Ref sig .tc := ⟨.hbm, 157, rfl⟩
abbrev main_call1_call0_call0_v92 : Ref sig .tc := ⟨.hbm, 158, rfl⟩
abbrev main_call1_call0_call0_v93 : Ref sig .tc := ⟨.hbm, 159, rfl⟩
abbrev main_call1_call0_call0_v94 : Ref sig .tc := ⟨.hbm, 160, rfl⟩
abbrev main_call1_call0_call0_v95 : Ref sig .tc := ⟨.hbm, 161, rfl⟩
abbrev main_call1_call0_call0_c_24 : Ref sig .tc := ⟨.hbm, 162, rfl⟩
abbrev main_call1_call0_call0_v96 : Ref sig .tc := ⟨.hbm, 163, rfl⟩
abbrev main_call1_call0_call0_v97 : Ref sig .tc := ⟨.hbm, 164, rfl⟩
abbrev main_call1_call0_call0_c_25 : Ref sig .tc := ⟨.hbm, 165, rfl⟩
abbrev main_call1_call0_call0_v98 : Ref sig .tc := ⟨.hbm, 166, rfl⟩
abbrev main_call1_call0_call0_v99 : Ref sig .tc := ⟨.hbm, 167, rfl⟩
abbrev main_call1_call0_call0_v100 : Ref sig .tc := ⟨.hbm, 168, rfl⟩
abbrev main_call1_call0_call0_v101 : Ref sig .tc := ⟨.hbm, 169, rfl⟩
abbrev main_call1_call0_call0_v102 : Ref sig .tc := ⟨.hbm, 170, rfl⟩
abbrev main_call1_call0_call0_v103 : Ref sig .tc := ⟨.hbm, 171, rfl⟩
abbrev main_call1_call0_call0_v104 : Ref sig .tc := ⟨.hbm, 172, rfl⟩
abbrev main_call1_call0_call0_v105 : Ref sig .tc := ⟨.hbm, 173, rfl⟩
abbrev main_call1_call0_call0_c_26 : Ref sig .tc := ⟨.hbm, 174, rfl⟩
abbrev main_call1_call0_call0_v106 : Ref sig .tc := ⟨.hbm, 175, rfl⟩
abbrev main_call1_call0_call0_v107 : Ref sig .tc := ⟨.hbm, 176, rfl⟩
abbrev main_call1_call0_call0_v108 : Ref sig .tc := ⟨.hbm, 177, rfl⟩
abbrev main_call1_call0_call0_c_27 : Ref sig .tc := ⟨.hbm, 178, rfl⟩
abbrev main_call1_call0_call0_v109 : Ref sig .tc := ⟨.hbm, 179, rfl⟩
abbrev main_call1_call0_call0_v110 : Ref sig .tc := ⟨.hbm, 180, rfl⟩
abbrev main_call1_call0_call0_c_28 : Ref sig .tc := ⟨.hbm, 181, rfl⟩
abbrev main_call1_call0_call0_v111 : Ref sig .tc := ⟨.hbm, 182, rfl⟩
abbrev main_call1_call0_call0_v112 : Ref sig .tc := ⟨.hbm, 183, rfl⟩
abbrev main_call1_call0_call0_v113 : Ref sig .tc := ⟨.hbm, 184, rfl⟩
abbrev main_call1_call0_call0_v114 : Ref sig .tc := ⟨.hbm, 185, rfl⟩
abbrev main_call1_call0_call0_v115 : Ref sig .tc := ⟨.hbm, 186, rfl⟩
abbrev main_call1_call0_call0_c_29 : Ref sig .tc := ⟨.hbm, 187, rfl⟩
abbrev main_call1_call0_call0_v116 : Ref sig .tc := ⟨.hbm, 188, rfl⟩
abbrev main_call1_call0_call0_v117 : Ref sig .tc := ⟨.hbm, 189, rfl⟩
abbrev main_call1_call0_call0_c_30 : Ref sig .tc := ⟨.hbm, 190, rfl⟩
abbrev main_call1_call0_call0_v118 : Ref sig .tc := ⟨.hbm, 191, rfl⟩
abbrev main_call1_call0_call0_v119 : Ref sig .tc := ⟨.hbm, 192, rfl⟩
abbrev main_call1_call0_call0_v120 : Ref sig .tc := ⟨.hbm, 193, rfl⟩
abbrev main_call1_call0_call0_v121 : Ref sig .tc := ⟨.hbm, 194, rfl⟩
abbrev main_call1_call0_call0_v122 : Ref sig .tc := ⟨.hbm, 195, rfl⟩
abbrev main_call1_call0_call0_c_31 : Ref sig .tc := ⟨.hbm, 196, rfl⟩
abbrev main_call1_call0_call0_v123 : Ref sig .tc := ⟨.hbm, 197, rfl⟩
abbrev main_call1_call0_call0_v124 : Ref sig .tc := ⟨.hbm, 198, rfl⟩
abbrev main_call1_call0_call0_c_32 : Ref sig .tc := ⟨.hbm, 199, rfl⟩
abbrev main_call1_call0_call0_v125 : Ref sig .tc := ⟨.hbm, 200, rfl⟩
abbrev main_call1_call0_call0_v126 : Ref sig .tc := ⟨.hbm, 201, rfl⟩
abbrev main_call1_call0_call0_v127 : Ref sig .tc := ⟨.hbm, 202, rfl⟩
abbrev main_call1_call0_call0_v128 : Ref sig .tc := ⟨.hbm, 203, rfl⟩
abbrev main_call1_call0_call0_v129 : Ref sig .tc := ⟨.hbm, 204, rfl⟩
abbrev main_call1_call0_call0_c_33 : Ref sig .tc := ⟨.hbm, 205, rfl⟩
abbrev main_call1_call0_call0_v130 : Ref sig .tc := ⟨.hbm, 206, rfl⟩
abbrev main_call1_call0_call0_v131 : Ref sig .tc := ⟨.hbm, 207, rfl⟩
abbrev main_call1_call0_call0_c_34 : Ref sig .tc := ⟨.hbm, 208, rfl⟩
abbrev main_call1_call0_call0_v132 : Ref sig .tc := ⟨.hbm, 209, rfl⟩
abbrev main_call1_call0_call0_v133 : Ref sig .tc := ⟨.hbm, 210, rfl⟩
abbrev main_call1_call0_call0_v134 : Ref sig .tc := ⟨.hbm, 211, rfl⟩
abbrev main_call1_call0_call0_v135 : Ref sig .tc := ⟨.hbm, 212, rfl⟩
abbrev main_call1_call0_call0_v136 : Ref sig .tc := ⟨.hbm, 213, rfl⟩
abbrev main_call1_call0_call0_v137 : Ref sig .tc := ⟨.hbm, 214, rfl⟩
abbrev main_call1_call0_call0_v138 : Ref sig .tc := ⟨.hbm, 215, rfl⟩
abbrev main_call1_call0_call0_v139 : Ref sig .tc := ⟨.hbm, 216, rfl⟩
abbrev main_call1_call0_call0_c_35 : Ref sig .tc := ⟨.hbm, 217, rfl⟩
abbrev main_call1_call0_call0_v140 : Ref sig .tc := ⟨.hbm, 218, rfl⟩
abbrev main_call1_call0_call0_v141 : Ref sig .tc := ⟨.hbm, 219, rfl⟩
abbrev main_call1_call0_call0_v142 : Ref sig .tc := ⟨.hbm, 220, rfl⟩
abbrev main_call1_call0_call0_c_36 : Ref sig .tc := ⟨.hbm, 221, rfl⟩
abbrev main_call1_call0_call0_v143 : Ref sig .tc := ⟨.hbm, 222, rfl⟩
abbrev main_call1_call0_call0_v144 : Ref sig .tc := ⟨.hbm, 223, rfl⟩
abbrev main_call1_call0_call0_c_37 : Ref sig .tc := ⟨.hbm, 224, rfl⟩
abbrev main_call1_call0_call0_v145 : Ref sig .tc := ⟨.hbm, 225, rfl⟩
abbrev main_call1_call0_call0_v146 : Ref sig .tc := ⟨.hbm, 226, rfl⟩
abbrev main_call1_call0_call0_v147 : Ref sig .tc := ⟨.hbm, 227, rfl⟩
abbrev main_call1_call0_call0_v148 : Ref sig .tc := ⟨.hbm, 228, rfl⟩
abbrev main_call1_call0_call0_v149 : Ref sig .tc := ⟨.hbm, 229, rfl⟩
abbrev main_call1_call0_call0_c_38 : Ref sig .tc := ⟨.hbm, 230, rfl⟩
abbrev main_call1_call0_call0_v150 : Ref sig .tc := ⟨.hbm, 231, rfl⟩
abbrev main_call1_call0_call0_v151 : Ref sig .tc := ⟨.hbm, 232, rfl⟩
abbrev main_call1_call0_call0_c_39 : Ref sig .tc := ⟨.hbm, 233, rfl⟩
abbrev main_call1_call0_call0_v152 : Ref sig .tc := ⟨.hbm, 234, rfl⟩
abbrev main_call1_call0_call0_v153 : Ref sig .tc := ⟨.hbm, 235, rfl⟩
abbrev main_call1_call0_call0_v154 : Ref sig .tc := ⟨.hbm, 236, rfl⟩
abbrev main_call1_call0_call0_v155 : Ref sig .tc := ⟨.hbm, 237, rfl⟩
abbrev main_call1_call0_call0_v156 : Ref sig .tc := ⟨.hbm, 238, rfl⟩
abbrev main_call1_call0_call0_c_40 : Ref sig .tc := ⟨.hbm, 239, rfl⟩
abbrev main_call1_call0_call0_v157 : Ref sig .tc := ⟨.hbm, 240, rfl⟩
abbrev main_call1_call0_call0_v158 : Ref sig .tc := ⟨.hbm, 241, rfl⟩
abbrev main_call1_call0_call0_c_41 : Ref sig .tc := ⟨.hbm, 242, rfl⟩
abbrev main_call1_call0_call0_v159 : Ref sig .tc := ⟨.hbm, 243, rfl⟩
abbrev main_call1_call0_call0_v160 : Ref sig .tc := ⟨.hbm, 244, rfl⟩
abbrev main_call1_call0_call0_v161 : Ref sig .tc := ⟨.hbm, 245, rfl⟩
abbrev main_call1_call0_call0_v162 : Ref sig .tc := ⟨.hbm, 246, rfl⟩
abbrev main_call1_call0_call0_v163 : Ref sig .tc := ⟨.hbm, 247, rfl⟩
abbrev main_call1_call0_call0_c_42 : Ref sig .tc := ⟨.hbm, 248, rfl⟩
abbrev main_call1_call0_call0_v164 : Ref sig .tc := ⟨.hbm, 249, rfl⟩
abbrev main_call1_call0_call0_v165 : Ref sig .tc := ⟨.hbm, 250, rfl⟩
abbrev main_call1_call0_call0_c_43 : Ref sig .tc := ⟨.hbm, 251, rfl⟩
abbrev main_call1_call0_call0_v166 : Ref sig .tc := ⟨.hbm, 252, rfl⟩
abbrev main_call1_call0_call0_v167 : Ref sig .tc := ⟨.hbm, 253, rfl⟩
abbrev main_call1_call0_call0_v168 : Ref sig .tc := ⟨.hbm, 254, rfl⟩
abbrev main_call1_call0_call0_v169 : Ref sig .tc := ⟨.hbm, 255, rfl⟩
abbrev main_call1_call0_call0_v170 : Ref sig .tc := ⟨.hbm, 256, rfl⟩
abbrev main_call1_call0_v18_0 : Ref sig .tc := ⟨.hbm, 257, rfl⟩
abbrev main_call1_call0_call0_v172 : Ref sig .tc := ⟨.hbm, 258, rfl⟩
abbrev main_call1_call0_call0_v173 : Ref sig .tc := ⟨.hbm, 259, rfl⟩
abbrev main_call1_call0_call0_c_44 : Ref sig .tc := ⟨.hbm, 260, rfl⟩
abbrev main_call1_call0_call0_v174 : Ref sig .tc := ⟨.hbm, 261, rfl⟩
abbrev main_call1_call0_v18_1 : Ref sig .tc := ⟨.hbm, 262, rfl⟩
abbrev main_call1_call0_v19 : Ref sig .tc := ⟨.hbm, 263, rfl⟩
abbrev main_call1_call0_c_2 : Ref sig .tc := ⟨.hbm, 264, rfl⟩
abbrev main_call1_call0_v20 : Ref sig .tc := ⟨.hbm, 265, rfl⟩
abbrev main_call1_call0_v21 : Ref sig .tc := ⟨.hbm, 266, rfl⟩
abbrev main_call1_call0_c_3 : Ref sig .tc := ⟨.hbm, 267, rfl⟩
abbrev main_call1_call0_v22 : Ref sig .tc := ⟨.hbm, 268, rfl⟩
abbrev main_call1_call0_v23 : Ref sig .tc := ⟨.hbm, 269, rfl⟩
abbrev main_call1_call0_v24 : Ref sig .tc := ⟨.hbm, 270, rfl⟩
abbrev main_call1_call0_cst : Ref sig .tc := ⟨.hbm, 271, rfl⟩
abbrev main_call1_call0_v25 : Ref sig .tc := ⟨.hbm, 272, rfl⟩
abbrev main_call1_call0_v26 : Ref sig .tc := ⟨.hbm, 273, rfl⟩
abbrev main_call1_call0_v27 : Ref sig .tc := ⟨.hbm, 274, rfl⟩
abbrev main_call1_call0_v28 : Ref sig .tc := ⟨.hbm, 275, rfl⟩
abbrev main_call1_call0_v29 : Ref sig .tc := ⟨.hbm, 276, rfl⟩
abbrev main_call1_call0_v30 : Ref sig .tc := ⟨.hbm, 277, rfl⟩
abbrev main_call1_call0_v31 : Ref sig .tc := ⟨.hbm, 278, rfl⟩
abbrev main_call1_call0_v32 : Ref sig .tc := ⟨.hbm, 279, rfl⟩
abbrev main_call1_v0 : Ref sig .tc := ⟨.hbm, 280, rfl⟩
abbrev main_call1_v1 : Ref sig .tc := ⟨.hbm, 281, rfl⟩
abbrev main_call1_v2 : Ref sig .tc := ⟨.hbm, 282, rfl⟩
abbrev main_call1_v3 : Ref sig .tc := ⟨.hbm, 283, rfl⟩
abbrev main_v8 : Ref sig .tc := ⟨.hbm, 284, rfl⟩
abbrev main_v9 : Ref sig .tc := ⟨.hbm, 285, rfl⟩
abbrev main_call2_v0 : Ref sig .tc := ⟨.hbm, 286, rfl⟩
abbrev main_call2_cst : Ref sig .tc := ⟨.hbm, 287, rfl⟩
abbrev main_call2_c : Ref sig .tc := ⟨.hbm, 288, rfl⟩
abbrev main_call2_v1_0 : Ref sig .tc := ⟨.hbm, 289, rfl⟩
abbrev main_v10 : Ref sig .tc := ⟨.hbm, 290, rfl⟩
abbrev main_call3_cst : Ref sig .tc := ⟨.hbm, 291, rfl⟩
abbrev main_call3_v0 : Ref sig .tc := ⟨.hbm, 292, rfl⟩
abbrev main_call3_cst_0 : Ref sig .tc := ⟨.hbm, 293, rfl⟩
abbrev main_call3_v1 : Ref sig .tc := ⟨.hbm, 294, rfl⟩
abbrev main_call3_v2 : Ref sig .tc := ⟨.hbm, 295, rfl⟩
abbrev main_call3_v3 : Ref sig .tc := ⟨.hbm, 296, rfl⟩
abbrev main_call3_v4 : Ref sig .tc := ⟨.hbm, 297, rfl⟩
abbrev main_call3_v5 : Ref sig .tc := ⟨.hbm, 298, rfl⟩
abbrev main_call3_v6 : Ref sig .tc := ⟨.hbm, 299, rfl⟩
abbrev main_call3_cst_1 : Ref sig .tc := ⟨.hbm, 300, rfl⟩
abbrev main_call3_v7 : Ref sig .tc := ⟨.hbm, 301, rfl⟩
abbrev main_call3_v8 : Ref sig .tc := ⟨.hbm, 302, rfl⟩
abbrev main_call3_v9 : Ref sig .tc := ⟨.hbm, 303, rfl⟩
abbrev main_call3_v10 : Ref sig .tc := ⟨.hbm, 304, rfl⟩
abbrev main_v11 : Ref sig .tc := ⟨.hbm, 305, rfl⟩
abbrev main_v12 : Ref sig .tc := ⟨.hbm, 306, rfl⟩
abbrev main_call4_c : Ref sig .tc := ⟨.hbm, 307, rfl⟩
abbrev main_call4_v0 : Ref sig .tc := ⟨.hbm, 308, rfl⟩
abbrev main_call4_v1 : Ref sig .tc := ⟨.hbm, 309, rfl⟩
abbrev main_call4_c_0 : Ref sig .tc := ⟨.hbm, 310, rfl⟩
abbrev main_call4_v2 : Ref sig .tc := ⟨.hbm, 311, rfl⟩
abbrev main_call4_v3 : Ref sig .tc := ⟨.hbm, 312, rfl⟩
abbrev main_call4_v4 : Ref sig .tc := ⟨.hbm, 313, rfl⟩
abbrev main_call4_v5 : Ref sig .tc := ⟨.hbm, 314, rfl⟩
abbrev main_call4_c_1 : Ref sig .tc := ⟨.hbm, 315, rfl⟩
abbrev main_call4_c_2 : Ref sig .tc := ⟨.hbm, 316, rfl⟩
abbrev main_call4_v6 : Ref sig .tc := ⟨.hbm, 317, rfl⟩
abbrev main_call4_v7 : Ref sig .tc := ⟨.hbm, 318, rfl⟩
abbrev main_call4_v8 : Ref sig .tc := ⟨.hbm, 319, rfl⟩
abbrev main_call4_v9 : Ref sig .tc := ⟨.hbm, 320, rfl⟩
abbrev main_call4_v10 : Ref sig .tc := ⟨.hbm, 321, rfl⟩
abbrev main_call4_v11 : Ref sig .tc := ⟨.hbm, 322, rfl⟩
abbrev main_call4_c_3 : Ref sig .tc := ⟨.hbm, 323, rfl⟩
abbrev main_call4_v12 : Ref sig .tc := ⟨.hbm, 324, rfl⟩
abbrev main_call4_v13 : Ref sig .tc := ⟨.hbm, 325, rfl⟩
abbrev main_call4_cst : Ref sig .tc := ⟨.hbm, 326, rfl⟩
abbrev main_call4_v14 : Ref sig .tc := ⟨.hbm, 327, rfl⟩
abbrev main_v13 : Ref sig .tc := ⟨.hbm, 328, rfl⟩
abbrev main_v14 : Ref sig .tc := ⟨.hbm, 329, rfl⟩

abbrev nD : Nat := 1
abbrev τ : Topo := Topo.v7x

variable {F : FTy → Type} [FloatOps F]
-- ==== Proof.RefOps.lean ====
/-
  The reference's host operations in order, as lists: one list per function of the printed program, in pieces where a later
  proof reads them piece by piece. The hash is twenty rounds of nine operations and five key injections of seven, so its lists
  are built from `roundOps` and `injectOps`. `main_eq` says that @main is the line of all of them.
-/
module

public import proofs.«01_k».proof.Defs
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The buffer of one 32-bit word per element of the mask. -/
abbrev Words := TRef sig ⟨S1024x100000, .i32⟩

/-- The buffer of one 32-bit word. -/
abbrev Word := TRef sig ⟨S_, .i32⟩

/-- One Threefry round from the words `x0`, `x1`, with the shift amounts `a` (left) and `b` (right): the sum goes to `s`,
    the second word rotated by `a` and combined with the sum to `y`. -/
def roundOps (x0 x1 s : Words) (ca : Word) (wa l : Words) (cb : Word) (wb r o y : Words) (a b : BitVec 32) : List (HloOp τ sig (Elt F)) :=
  [ TRef.binary x0 x1 s addi,
    TRef.nullary ca (constantI S_ 32 a),
    TRef.unary ca wa (broadcastInDim S1024x100000 ![] bcast_S_S1024x100000),
    TRef.binary x1 wa l Host.shli,
    TRef.nullary cb (constantI S_ 32 b),
    TRef.unary cb wb (broadcastInDim S1024x100000 ![] bcast_S_S1024x100000),
    TRef.binary x1 wb r Host.shrui,
    TRef.binary l r o ori,
    TRef.binary s o y xori ]

/-- One key injection: the key words `k0`, `k1` are added to the two words `x0`, `x1`, and the constant `n` to the second. -/
def injectOps (x0 x1 : Words) (k0 : Word) (w0 y0 : Words) (k1 : Word) (w1 y1 : Words) (c : Word) (w y : Words) (n : BitVec 32) : List (HloOp τ sig (Elt F)) :=
  [ TRef.unary k0 w0 (broadcastInDim S1024x100000 ![] bcast_S_S1024x100000),
    TRef.binary x0 w0 y0 addi,
    TRef.unary k1 w1 (broadcastInDim S1024x100000 ![] bcast_S_S1024x100000),
    TRef.binary x1 w1 y1 addi,
    TRef.nullary c (constantI S_ 32 n),
    TRef.unary c w (broadcastInDim S1024x100000 ![] bcast_S_S1024x100000),
    TRef.binary y1 w y addi ]

/-- The key schedule of the hash, and the first key words added to the counter words. -/
def scheduleOps (arg0 arg1 : Word) (arg2 arg3 : Words) (φ : fn_threefry2x32.Bufs) : List (HloOp τ sig (Elt F)) :=
  [ TRef.binary arg0 arg1 φ.v0 xori,
    TRef.nullary φ.c (constantI S_ 32 466688986#32),
    TRef.binary φ.v0 φ.c φ.v1 xori,
    TRef.unary arg0 φ.v2 (broadcastInDim S1024x100000 ![] bcast_S_S1024x100000),
    TRef.binary arg2 φ.v2 φ.v3 addi,
    TRef.unary arg1 φ.v4 (broadcastInDim S1024x100000 ![] bcast_S_S1024x100000),
    TRef.binary arg3 φ.v4 φ.v5 addi ]

/-- Rounds 1 to 4 of the hash and the key injection after them. -/
def rounds1 (arg1 : Word) (φ : fn_threefry2x32.Bufs) : List (HloOp τ sig (Elt F)) :=
  roundOps φ.v3 φ.v5 φ.v6 φ.c_0 φ.v7 φ.v8 φ.c_1 φ.v9 φ.v10 φ.v11 φ.v12 13#32 19#32 ++
    roundOps φ.v6 φ.v12 φ.v13 φ.c_2 φ.v14 φ.v15 φ.c_3 φ.v16 φ.v17 φ.v18 φ.v19 15#32 17#32 ++
    roundOps φ.v13 φ.v19 φ.v20 φ.c_4 φ.v21 φ.v22 φ.c_5 φ.v23 φ.v24 φ.v25 φ.v26 26#32 6#32 ++
    roundOps φ.v20 φ.v26 φ.v27 φ.c_6 φ.v28 φ.v29 φ.c_7 φ.v30 φ.v31 φ.v32 φ.v33 6#32 26#32 ++
    injectOps φ.v27 φ.v33 arg1 φ.v34 φ.v35 φ.v1 φ.v36 φ.v37 φ.c_8 φ.v38 φ.v39 1#32

/-- Rounds 5 to 8 of the hash and the key injection after them. -/
def rounds2 (arg0 : Word) (φ : fn_threefry2x32.Bufs) : List (HloOp τ sig (Elt F)) :=
  roundOps φ.v35 φ.v39 φ.v40 φ.c_9 φ.v41 φ.v42 φ.c_10 φ.v43 φ.v44 φ.v45 φ.v46 17#32 15#32 ++
    roundOps φ.v40 φ.v46 φ.v47 φ.c_11 φ.v48 φ.v49 φ.c_12 φ.v50 φ.v51 φ.v52 φ.v53 29#32 3#32 ++
    roundOps φ.v47 φ.v53 φ.v54 φ.c_13 φ.v55 φ.v56 φ.c_14 φ.v57 φ.v58 φ.v59 φ.v60 16#32 16#32 ++
    roundOps φ.v54 φ.v60 φ.v61 φ.c_15 φ.v62 φ.v63 φ.c_16 φ.v64 φ.v65 φ.v66 φ.v67 24#32 8#32 ++
    injectOps φ.v61 φ.v67 φ.v1 φ.v68 φ.v69 arg0 φ.v70 φ.v71 φ.c_17 φ.v72 φ.v73 2#32

/-- Rounds 9 to 12 of the hash and the key injection after them. -/
def rounds3 (arg0 : Word) (arg1 : Word) (φ : fn_threefry2x32.Bufs) : List (HloOp τ sig (Elt F)) :=
  roundOps φ.v69 φ.v73 φ.v74 φ.c_18 φ.v75 φ.v76 φ.c_19 φ.v77 φ.v78 φ.v79 φ.v80 13#32 19#32 ++
    roundOps φ.v74 φ.v80 φ.v81 φ.c_20 φ.v82 φ.v83 φ.c_21 φ.v84 φ.v85 φ.v86 φ.v87 15#32 17#32 ++
    roundOps φ.v81 φ.v87 φ.v88 φ.c_22 φ.v89 φ.v90 φ.c_23 φ.v91 φ.v92 φ.v93 φ.v94 26#32 6#32 ++
    roundOps φ.v88 φ.v94 φ.v95 φ.c_24 φ.v96 φ.v97 φ.c_25 φ.v98 φ.v99 φ.v100 φ.v101 6#32 26#32 ++
    injectOps φ.v95 φ.v101 arg0 φ.v102 φ.v103 arg1 φ.v104 φ.v105 φ.c_26 φ.v106 φ.v107 3#32

/-- Rounds 13 to 16 of the hash and the key injection after them. -/
def rounds4 (arg1 : Word) (φ : fn_threefry2x32.Bufs) : List (HloOp τ sig (Elt F)) :=
  roundOps φ.v103 φ.v107 φ.v108 φ.c_27 φ.v109 φ.v110 φ.c_28 φ.v111 φ.v112 φ.v113 φ.v114 17#32 15#32 ++
    roundOps φ.v108 φ.v114 φ.v115 φ.c_29 φ.v116 φ.v117 φ.c_30 φ.v118 φ.v119 φ.v120 φ.v121 29#32 3#32 ++
    roundOps φ.v115 φ.v121 φ.v122 φ.c_31 φ.v123 φ.v124 φ.c_32 φ.v125 φ.v126 φ.v127 φ.v128 16#32 16#32 ++
    roundOps φ.v122 φ.v128 φ.v129 φ.c_33 φ.v130 φ.v131 φ.c_34 φ.v132 φ.v133 φ.v134 φ.v135 24#32 8#32 ++
    injectOps φ.v129 φ.v135 arg1 φ.v136 φ.v137 φ.v1 φ.v138 φ.v139 φ.c_35 φ.v140 φ.v141 4#32

/-- Rounds 17 to 20 of the hash and the key injection after them. -/
def rounds5 (arg0 : Word) (φ : fn_threefry2x32.Bufs) : List (HloOp τ sig (Elt F)) :=
  roundOps φ.v137 φ.v141 φ.v142 φ.c_36 φ.v143 φ.v144 φ.c_37 φ.v145 φ.v146 φ.v147 φ.v148 13#32 19#32 ++
    roundOps φ.v142 φ.v148 φ.v149 φ.c_38 φ.v150 φ.v151 φ.c_39 φ.v152 φ.v153 φ.v154 φ.v155 15#32 17#32 ++
    roundOps φ.v149 φ.v155 φ.v156 φ.c_40 φ.v157 φ.v158 φ.c_41 φ.v159 φ.v160 φ.v161 φ.v162 26#32 6#32 ++
    roundOps φ.v156 φ.v162 φ.v163 φ.c_42 φ.v164 φ.v165 φ.c_43 φ.v166 φ.v167 φ.v168 φ.v169 6#32 26#32 ++
    injectOps φ.v163 φ.v169 φ.v1 φ.v170 φ.v171 arg0 φ.v172 φ.v173 φ.c_44 φ.v174 φ.v175 5#32

/-- The hash, from the key words and the counter words. -/
def threefryOps (arg0 arg1 : Word) (arg2 arg3 : Words) (φ : fn_threefry2x32.Bufs) : List (HloOp τ sig (Elt F)) :=
  scheduleOps arg0 arg1 arg2 arg3 φ ++ rounds1 arg1 φ ++ rounds2 arg0 φ ++ rounds3 arg0 arg1 φ ++ rounds4 arg1 φ ++ rounds5 arg0 φ

/-- The choice between two scalars by the mask. -/
def whereOps (arg0 : TRef sig ⟨S1024x100000, .i1⟩) (arg1 arg2 : TRef sig ⟨S_, .f32⟩) (φ : fn_where.Bufs) : List (HloOp τ sig (Elt F)) :=
  [ TRef.unary arg1 φ.v0 (broadcastInDim S1024x100000 ![] bcast_S_S1024x100000),
    TRef.unary arg2 φ.v1 (broadcastInDim S1024x100000 ![] bcast_S_S1024x100000),
    TRef.ternary arg0 φ.v0 φ.v1 φ.v2 select ]

/-- The uniform draw's bounds, the two key words, and the counter words: the high and the low half of each element's number. -/
def counterOps (arg0 : TRef sig ⟨S2, .i32⟩) (arg1 arg2 : TRef sig ⟨S_, .f32⟩) (φ : fn_uniform.Bufs) : List (HloOp τ sig (Elt F)) :=
  [ TRef.unary arg1 φ.v0 id,
    TRef.unary arg2 φ.v1 (broadcastInDim S1x1 ![] bcast_S_S1x1),
    TRef.unary φ.v0 φ.v2 (broadcastInDim S1x1 ![] bcast_S_S1x1),
    TRef.unary arg0 φ.v3 (extractStridedSlice S1 ![0] · slices_S2_S1_0),
    TRef.reshape φ.v3 φ.v4 (rfl : (.i32 : EltTy) = .i32) shapeCasts_S1_S_,
    TRef.unary arg0 φ.v5 (extractStridedSlice S1 ![1] · slices_S2_S1_1),
    TRef.reshape φ.v5 φ.v6 (rfl : (.i32 : EltTy) = .i32) shapeCasts_S1_S_,
    TRef.nullary φ.v7 (iotaInDim S1024x100000 64 0),
    TRef.nullary φ.v8 (iotaInDim S1024x100000 64 1),
    TRef.nullary φ.c (constantI S_ 64 100000#64),
    TRef.unary φ.c φ.v9 (broadcastInDim S1024x100000 ![] bcast_S_S1024x100000),
    TRef.binary φ.v9 φ.v7 φ.v10 muli,
    TRef.nullary φ.c_0 (constantI S_ 64 1#64),
    TRef.unary φ.c_0 φ.v11 (broadcastInDim S1024x100000 ![] bcast_S_S1024x100000),
    TRef.binary φ.v11 φ.v8 φ.v12 muli,
    TRef.binary φ.v10 φ.v12 φ.v13 addi,
    TRef.nullary φ.c_1 (constantI S_ 64 32#64),
    TRef.unary φ.c_1 φ.v14 (broadcastInDim S1024x100000 ![] bcast_S_S1024x100000),
    TRef.binary φ.v13 φ.v14 φ.v15 Host.shrui,
    TRef.unary φ.v13 φ.v16 (trunci 32 · natLt_32_64),
    TRef.unary φ.v15 φ.v17 (trunci 32 · natLt_32_64) ]

/-- The two hash words combined, and the uniform draw made of their upper 23 bits. -/
def unitOps (φ : fn_uniform.Bufs) : List (HloOp τ sig (Elt F)) :=
  [ TRef.binary φ.call0.v171 φ.call0.v175 φ.v19 xori,
    TRef.nullary φ.c_2 (constantI S_ 32 9#32),
    TRef.unary φ.c_2 φ.v20 (broadcastInDim S1024x100000 ![] bcast_S_S1024x100000),
    TRef.binary φ.v19 φ.v20 φ.v21 Host.shrui,
    TRef.nullary φ.c_3 (constantI S_ 32 1065353216#32),
    TRef.unary φ.c_3 φ.v22 (broadcastInDim S1024x100000 ![] bcast_S_S1024x100000),
    TRef.binary φ.v21 φ.v22 φ.v23 ori,
    TRef.unary φ.v23 φ.v24 (bitcastToFloat .f32),
    TRef.nullary φ.cst (constant S_ .f32 0x3F800000#32),
    TRef.unary φ.cst φ.v25 (broadcastInDim S1024x100000 ![] bcast_S_S1024x100000),
    TRef.binary φ.v24 φ.v25 φ.v26 subf,
    TRef.binary φ.v2 φ.v1 φ.v27 subf,
    TRef.unary φ.v27 φ.v28 (broadcastInDim S1024x100000 ![0, 1] bcast_S1x1_S1024x100000_0_1),
    TRef.binary φ.v26 φ.v28 φ.v29 mulf,
    TRef.unary φ.v1 φ.v30 (broadcastInDim S1024x100000 ![0, 1] bcast_S1x1_S1024x100000_0_1),
    TRef.binary φ.v29 φ.v30 φ.v31 addf,
    TRef.unary φ.v1 φ.v32 (broadcastInDim S1024x100000 ![0, 1] bcast_S1x1_S1024x100000_0_1),
    TRef.binary φ.v32 φ.v31 φ.v33 maximumf ]

/-- The uniform draw's bounds. -/
def boundsOps (φ : fn_gumbel.Bufs) : List (HloOp τ sig (Elt F)) :=
  [ TRef.nullary φ.cst (constant S_ .f32 0x3F800000#32),
    TRef.nullary φ.cst_0 (constant S_ .f32 0x00800000#32) ]

/-- The Gumbel noise: minus the logarithm of minus the logarithm of the uniform draw. -/
def logsOps (φ : fn_gumbel.Bufs) : List (HloOp τ sig (Elt F)) :=
  [ TRef.unary φ.call0.v33 φ.v1 Host.log,
    TRef.unary φ.v1 φ.v2 Host.negf,
    TRef.unary φ.v2 φ.v3 Host.log,
    TRef.unary φ.v3 φ.v4 Host.negf ]

/-- Each row's largest element and its first column. -/
def argmaxOps (arg0 : TRef sig ⟨S1024x100000, .f32⟩) (φ : fn_argmax.Bufs) : List (HloOp τ sig (Elt F)) :=
  [ TRef.nullary φ.v0 (iotaInDim S1024x100000 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S1024x100000_S1024_d1 h_S_ j).1),
    TRef.quaternary arg0 φ.v0 φ.cst φ.c φ.v1_1 (fun x y u v j => (Host.argReduce reducer_argmax_f32_i32 x y u v reducesTo_S1024x100000_S1024_d1 h_S_ j).2) ]

/-- The logarithm of each row's softmax. -/
def softmaxOps (arg0 : TRef sig ⟨S1024x100000, .f32⟩) (φ : fn_log_softmax.Bufs) : List (HloOp τ sig (Elt F)) :=
  [ TRef.nullary φ.cst (constant S_ .f32 0xFF800000#32),
    TRef.binary arg0 φ.cst φ.v0 (fun x v => Host.reduce FloatOps.maximumf x v reducesTo_S1024x100000_S1024_d1 h_S_),
    TRef.nullary φ.cst_0 (constant S_ .f32 0xFF800000#32),
    TRef.unary φ.cst_0 φ.v1 (broadcastInDim S1024 ![] bcast_S_S1024),
    TRef.binary φ.v1 φ.v0 φ.v2 maximumf,
    TRef.unary φ.v2 φ.v3 (broadcastInDim S1024x1 ![0] bcast_S1024_S1024x1_0),
    TRef.unary φ.v3 φ.v4 (broadcastInDim S1024x100000 ![0, 1] bcast_S1024x1_S1024x100000_0_1),
    TRef.binary arg0 φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S1024x100000_S1024_d1 h_S_),
    TRef.unary φ.v7 φ.v8 (broadcastInDim S1024x1 ![0] bcast_S1024_S1024x1_0),
    TRef.unary φ.v8 φ.v9 Host.log,
    TRef.unary φ.v9 φ.v10 (broadcastInDim S1024x100000 ![0, 1] bcast_S1024x1_S1024x100000_0_1),
    TRef.binary φ.v5 φ.v10 φ.v11 subf ]

/-- Each row's element at the row's index. -/
def takeOps (arg0 : TRef sig ⟨S1024x100000, .f32⟩) (arg1 : TRef sig ⟨S1024x1, .i32⟩) (φ : fn_take_along_axis.Bufs) : List (HloOp τ sig (Elt F)) :=
  [ TRef.nullary φ.c (constantI S_ 32 0#32),
    TRef.unary φ.c φ.v0 (broadcastInDim S1024x1 ![] bcast_S_S1024x1),
    TRef.binary arg1 φ.v0 φ.v1 (cmpi .slt),
    TRef.nullary φ.c_0 (constantI S_ 32 100000#32),
    TRef.unary φ.c_0 φ.v2 (broadcastInDim S1024x1 ![] bcast_S_S1024x1),
    TRef.binary arg1 φ.v2 φ.v3 addi,
    TRef.ternary φ.v1 φ.v3 arg1 φ.v4 select,
    TRef.reshape φ.v4 φ.v5 (rfl : (.i32 : EltTy) = .i32) shapeCasts_S1024x1_S1024x1x1,
    TRef.nullary φ.c_1 (constantI S1 32 99999#32),
    TRef.nullary φ.c_2 (constantI S_ 32 0#32),
    TRef.unary φ.c_2 φ.v6 (broadcastInDim S1024x1x1 ![] bcast_S_S1024x1x1),
    TRef.binary φ.v5 φ.v6 φ.v7 (cmpi .sge),
    TRef.unary φ.c_1 φ.v8 (broadcastInDim S1x1x1 ![2] bcast_S1_S1x1x1_2),
    TRef.unary φ.v8 φ.v9 (broadcastInDim S1024x1x1 ![0, 1, 2] bcast_S1x1x1_S1024x1x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1024x1x1_S1024x1_d2 h_S_),
    TRef.binary arg0 φ.v5 φ.v13 (fun x i => Host.gather gather_S1024x100000_S1024x1x1_S1024x1_n_1_0_0_1_2_11 x i),
    TRef.nullary φ.cst (constant S_ .f32 0x7FC00000#32),
    TRef.unary φ.cst φ.v14 (broadcastInDim S1024x1 ![] bcast_S_S1024x1),
    TRef.ternary φ.v12 φ.v13 φ.v14 φ.v15 select ]

/-- The two logits: zero, and minus infinity. -/
def constOps  : List (HloOp τ sig (Elt F)) :=
  [ nullary main_cst (constant S_ .f32 0x00000000#32),
    nullary main_cst_0 (constant S_ .f32 0xFF800000#32) ]

/-- The two words of the key. -/
def keyOps  : List (HloOp τ sig (Elt F)) :=
  [ nullary main_c (constantI S_ 32 42#32),
    nullary main_c_1 (constantI S_ 32 32#32),
    binary main_c main_c_1 main_v1 (Host.shrui : (⟨S_, .i32⟩ : BufTy).Contents (Elt F) → (⟨S_, .i32⟩ : BufTy).Contents (Elt F) → (⟨S_, .i32⟩ : BufTy).Contents (Elt F)),
    unary main_v1 main_v2 (id : (⟨S_, .i32⟩ : BufTy).Contents (Elt F) → (⟨S_, .i32⟩ : BufTy).Contents (Elt F)),
    unary main_v2 main_v3 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v4 (andi : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- The logits added to the noise. -/
def addOps  : List (HloOp τ sig (Elt F)) :=
  [ binary main_v8 main_v0 main_v9 (addf : (⟨S1024x100000, .f32⟩ : BufTy).Contents (Elt F) → (⟨S1024x100000, .f32⟩ : BufTy).Contents (Elt F) → (⟨S1024x100000, .f32⟩ : BufTy).Contents (Elt F)) ]

/-- The row's action as a column. -/
def columnOps  : List (HloOp τ sig (Elt F)) :=
  [ unary main_v10 main_v12 (broadcastInDim S1024x1 ![0] bcast_S1024_S1024x1_0 : (⟨S1024, .i32⟩ : BufTy).Contents (Elt F) → (⟨S1024x1, .i32⟩ : BufTy).Contents (Elt F)) ]

/-- The log probabilities as a vector. -/
def flatOps  : List (HloOp τ sig (Elt F)) :=
  [ reshape main_v13 main_v14 (rfl : (.f32 : EltTy) = .f32) shapeCasts_S1024x1_S1024 ]

/-- The operations before the hash: the logits, the key words and the counter words. -/
def beforeOps : List (HloOp τ sig (Elt F)) :=
  constOps ++ whereOps (.of main_arg0) (.of main_cst) (.of main_cst_0) main_call0 ++ keyOps ++ boundsOps main_call1 ++
    counterOps (.of main_v7) main_call1.cst main_call1.cst_0 main_call1.call0

/-- The hash of the counter words under the key words. -/
def hashOps : List (HloOp τ sig (Elt F)) :=
  threefryOps main_call1.call0.v4 main_call1.call0.v6 main_call1.call0.v17 main_call1.call0.v16 main_call1.call0.call0

/-- The operations from the hash to the noisy logits. -/
def noiseOps : List (HloOp τ sig (Elt F)) :=
  unitOps main_call1.call0 ++ logsOps main_call1 ++ addOps

/-- The operations from the noisy logits to the two results. -/
def resultOps : List (HloOp τ sig (Elt F)) :=
  argmaxOps (.of main_v9) main_call2 ++ softmaxOps (.of main_v0) main_call3 ++ columnOps ++
    takeOps (.of main_v11) (.of main_v12) main_call4 ++ flatOps

/-- @main's operations, in order. -/
def ops : List (HloOp τ sig (Elt F)) := beforeOps ++ hashOps ++ noiseOps ++ resultOps

set_option maxRecDepth 65536 in
set_option maxHeartbeats 4000000 in
/-- The hash's body is the line of its operations. -/
theorem threefry_eq (a b : Word) (c d : Words) (φ : fn_threefry2x32.Bufs) :
    fn_threefry2x32.body (F := F) a b c d φ = seq (threefryOps a b c d φ) := rfl

set_option maxRecDepth 65536 in
set_option maxHeartbeats 4000000 in
/-- @main is the line of its operations. -/
theorem main_eq (c : Dev nD) : main (F := F) c = seq ops := rfl

end Cert.Proof.Ref

end
-- ==== Proof.RefRun.lean ====
/-
  The run of the reference: every execution of its @main ends, each buffer holds what the line of operations leaves in it, and no
  operation writes an argument.
-/
module

public import proofs.«01_k».proof.Proof.RefOps
public import Idealize.ShloMosaic.Lib.StableHlo.RunRead
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Nothing is scoped in the reference's signature: neither a buffer -/
theorem scopedRefs_eq : (Finset.univ.filter fun b : Ref sig .tc => b.isScoped) = ∅ := by decide
/-- nor a semaphore. -/
theorem scopedSems_eq : (Finset.univ.filter fun sm : SemLoc sig => sm.isScoped .tc) = ∅ := by decide

/-- Every operation of a line touches the core's own buffers only. -/
abbrev Own (l : List (HloOp τ sig (Elt F))) : Prop := l.Forall fun op => op.bufs ⊆ tcRefs τ sig

/-- Two such lines make one. -/
theorem Own.append {l₁ l₂ : List (HloOp τ sig (Elt F))} (h₁ : Own l₁) (h₂ : Own l₂) : Own (l₁ ++ l₂) :=
  List.forall_iff_forall_mem.mpr (List.forall_mem_append.mpr ⟨List.forall_iff_forall_mem.mp h₁, List.forall_iff_forall_mem.mp h₂⟩)

/-- A round touches the core's own buffers only. -/
theorem round_own (x0 x1 s : Words) (ca : Word) (wa l : Words) (cb : Word) (wb r o y : Words) (a b : BitVec 32) :
    Own (F := F) (roundOps x0 x1 s ca wa l cb wb r o y a b) :=
  ⟨binary_bufs_sub .., nullary_bufs_sub .., unary_bufs_sub .., binary_bufs_sub .., nullary_bufs_sub .., unary_bufs_sub ..,
    binary_bufs_sub .., binary_bufs_sub .., binary_bufs_sub ..⟩

/-- An injection touches the core's own buffers only. -/
theorem inject_own (x0 x1 : Words) (k0 : Word) (w0 y0 : Words) (k1 : Word) (w1 y1 : Words) (c : Word) (w y : Words) (n : BitVec 32) :
    Own (F := F) (injectOps x0 x1 k0 w0 y0 k1 w1 y1 c w y n) :=
  ⟨unary_bufs_sub .., binary_bufs_sub .., unary_bufs_sub .., binary_bufs_sub .., nullary_bufs_sub .., unary_bufs_sub ..,
    binary_bufs_sub ..⟩

/-- Four rounds and an injection. -/
theorem Own.group {l₁ l₂ l₃ l₄ l₅ : List (HloOp τ sig (Elt F))} (h₁ : Own l₁) (h₂ : Own l₂) (h₃ : Own l₃) (h₄ : Own l₄)
    (h₅ : Own l₅) : Own (l₁ ++ l₂ ++ l₃ ++ l₄ ++ l₅) := (((h₁.append h₂).append h₃).append h₄).append h₅

/-- The hash touches the core's own buffers only. -/
theorem threefry_own (a b : Word) (c d : Words) (φ : fn_threefry2x32.Bufs) : Own (F := F) (threefryOps a b c d φ) := by
  unfold threefryOps
  refine ((((Own.append ?_ ?_).append ?_).append ?_).append ?_).append ?_
  · exact ⟨binary_bufs_sub .., nullary_bufs_sub .., binary_bufs_sub .., unary_bufs_sub .., binary_bufs_sub ..,
      unary_bufs_sub .., binary_bufs_sub ..⟩
  · unfold rounds1; exact .group (round_own ..) (round_own ..) (round_own ..) (round_own ..) (inject_own ..)
  · unfold rounds2; exact .group (round_own ..) (round_own ..) (round_own ..) (round_own ..) (inject_own ..)
  · unfold rounds3; exact .group (round_own ..) (round_own ..) (round_own ..) (round_own ..) (inject_own ..)
  · unfold rounds4; exact .group (round_own ..) (round_own ..) (round_own ..) (round_own ..) (inject_own ..)
  · unfold rounds5; exact .group (round_own ..) (round_own ..) (round_own ..) (round_own ..) (inject_own ..)

/-- Every operation of @main touches the core's own buffers only. -/
theorem ops_sub : Own (F := F) ops := by
  unfold ops beforeOps hashOps noiseOps resultOps
  repeat' with_reducible apply Own.append
  on_goal 6 => exact threefry_own ..
  all_goals
    simp only [Own, constOps, whereOps, keyOps, boundsOps, counterOps, unitOps, logsOps, addOps, argmaxOps, softmaxOps, columnOps,
      takeOps, flatOps, List.Forall, TRef.nullary, TRef.unary, TRef.binary, TRef.ternary, TRef.quaternary, TRef.reshape,
      nullary_bufs_sub, unary_bufs_sub, binary_bufs_sub, ternary_bufs_sub, quaternary_bufs_sub, reshape_bufs_sub, and_self]

/-- No operation of the line leaves a buffer undetermined. -/
theorem ops_fresh : ∀ op ∈ (ops : List (HloOp τ sig (Elt F))), op.fresh = ∅ :=
  List.forall_iff_forall_mem.mp (forall_fresh_of_map rfl)

/-- The line leaves the three arguments as they were. -/
theorem args_eq (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2) := by
  refine ⟨?_, ?_, ?_⟩ <;> after_reads_simp

/-- From any memory with zero counters every execution of @main ends with each buffer at what the line leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The reference's frame: it ends, its arguments are unchanged and every counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      have e := args_eq (launchContents m c)
      ⟨(h c main_arg0).trans e.1, (h c main_arg1).trans e.2.1, (h c main_arg2).trans e.2.2⟩,
      sem_eq_zero_of_no_sems (by decide) r.2⟩)
    (run_main m ρ)

end Cert.Proof.Ref

end
-- ==== Proof.Words.lean ====
/-
  The Threefry-2x32 hash on 32-bit words, and the 23-bit draw made of it: what both programs compute for an element of the mask.
-/
module

public import Mathlib.Data.BitVec

@[expose] public section

namespace Cert.Proof.Words

/-- A 32-bit word. -/
abbrev W := BitVec 32

/-- A word rotated to the left by `a`, where `a` and `b` make 32. -/
def rot (a b x : W) : W := x <<< a ||| x >>> b

/-- One round on a pair of words: their sum, and the second one rotated and combined with the sum. -/
def mix (a b : W) (p : W × W) : W × W := (p.1 + p.2, (p.1 + p.2) ^^^ rot a b p.2)

/-- The four rounds of the odd groups. -/
def oddRounds (p : W × W) : W × W := mix 6#32 26#32 (mix 26#32 6#32 (mix 15#32 17#32 (mix 13#32 19#32 p)))

/-- The four rounds of the even groups. -/
def evenRounds (p : W × W) : W × W := mix 24#32 8#32 (mix 16#32 16#32 (mix 29#32 3#32 (mix 17#32 15#32 p)))

/-- A key injection: a key word added to each word, and the group's number to the second. -/
def inject (k0 k1 n : W) (p : W × W) : W × W := (p.1 + k0, p.2 + k1 + n)

/-- The third key word. -/
def third (k0 k1 : W) : W := k0 ^^^ k1 ^^^ 466688986#32

/-- The hash of the counter pair `p` under the key `k0`, `k1`. -/
def threefry (k0 k1 : W) (p : W × W) : W × W :=
  inject (third k0 k1) k0 5#32 <| oddRounds <| inject k1 (third k0 k1) 4#32 <| evenRounds <| inject k0 k1 3#32 <| oddRounds <|
    inject (third k0 k1) k0 2#32 <| evenRounds <| inject k1 (third k0 k1) 1#32 <| oddRounds (p.1 + k0, p.2 + k1)

/-- The two words of a pair combined, and the upper 23 bits kept. -/
def top (p : W × W) : W := (p.1 ^^^ p.2) >>> 9#32

/-- The number of the element in row `r` and column `c`. -/
def number (r c : ℕ) : W := BitVec.ofNat 32 (100000 * r + c)

/-- The 23-bit draw of the element in row `r` and column `c`, under the key of the seed 42. -/
def draw (r c : ℕ) : W := top (threefry 0#32 42#32 (0#32, number r c))

/-- A draw has 23 bits. -/
theorem draw_lt (r c : ℕ) : (draw r c).toNat < 2 ^ 23 := by
  unfold draw top
  rw [BitVec.ushiftRight_eq', BitVec.toNat_ushiftRight, Nat.shiftRight_eq_div_pow]
  have h := ((threefry 0#32 42#32 (0#32, number r c)).1 ^^^ (threefry 0#32 42#32 (0#32, number r c)).2).isLt
  rw [show (9#32).toNat = 9 from rfl]
  omega

end Cert.Proof.Words
-- ==== Proof.RefHash.lean ====
/-
  The reference's hash, read group by group: what each group of four rounds and the injection after it leave in the two words of an
  element, and from these the hash of an element's counter words under the two key words.
-/
module

public import proofs.«01_k».proof.Proof.Words
public import proofs.«01_k».proof.Proof.RefRun
public import Idealize.ShloMosaic.Lib.Pipeline.Frame
public import Idealize.ShloMosaic.Lib.Tactic.CleanTypes

@[expose] public section

noncomputable section

namespace Cert.Proof.Ref

open Cert.ReferenceIdeal Cert.ReferenceIdeal.Gen Cert.Proof.Words
open Idealize.ShloMosaic Idealize.ShloMosaic.TcCoe Idealize.ShloMosaic.StableHlo Idealize.SL.Sem

variable {F : FTy → Type} [FloatOps F]

/-- The buffers of the one call of the hash. -/
abbrev H : fn_threefry2x32.Bufs := main_call1.call0.call0
/-- The two key words, as the hash is given them. -/
abbrev key0 : Word := main_call1.call0.v4
@[inherit_doc key0] abbrev key1 : Word := main_call1.call0.v6

/-- The two halves of each element's number. -/
abbrev hi : Words := main_call1.call0.v17
@[inherit_doc hi] abbrev lo : Words := main_call1.call0.v16

/-- The element `i` of a buffer of words. -/
abbrev word (V : Valuation τ sig (Elt F)) (x : Words) (i : S1024x100000.Idx) : W := x.ofBuf (V (Proc.devRef .tc x.ref)) i
/-- The one element of a buffer of one word. -/
abbrev scalar (V : Valuation τ sig (Elt F)) (x : Word) : W := x.ofBuf (V (Proc.devRef .tc x.ref)) (Shape.Idx.first h_S_)

section Elementwise
variable (x y : IVec S1024x100000 32) (i : S1024x100000.Idx)

/-- A sum of arrays of words, at an element. -/
theorem addi_at : addi x y i = x i + y i := rfl
/-- An exclusive or of arrays of words, at an element. -/
theorem xori_at : xori x y i = x i ^^^ y i := rfl

/-- A word spread over an array. -/
theorem spread_at {α : Type} {t : Shape} (d : Fin S_.rank → Fin t.rank) (h : S_.BroadcastsInDim t d) (x : S_.Idx → α) (i : t.Idx) :
    broadcastInDim t d h x i = x (Shape.Idx.first h_S_) :=
  congrArg x (funext fun k => k.elim0)

/-- The two shifts of a rotation, combined. -/
theorem rot_at (d : Fin S_.rank → Fin S1024x100000.rank) (h : S_.BroadcastsInDim S1024x100000 d) (a b : BitVec 32)
    (ha : a.toNat < 32) (hb : b.toNat < 32) :
    ori (Host.shli x (broadcastInDim S1024x100000 d h (constantI S_ 32 a)))
      (Host.shrui x (broadcastInDim S1024x100000 d h (constantI S_ 32 b))) i = rot a b (x i) :=
  congrArg₂ (· ||| ·) (if_pos ha) (if_pos hb)

/-- A constant word, at its element. -/
theorem word_at (w : BitVec 32) (j : S_.Idx) : constantI S_ 32 w j = w := rfl

end Elementwise

/-- Rounds 1 to 4 and the injection after them. -/
theorem rounds1_at (V : Valuation τ sig (Elt F)) (i : S1024x100000.Idx) :
    (word (after (rounds1 key1 H) V) H.v35 i, word (after (rounds1 key1 H) V) H.v39 i)
      = inject (scalar V key1) (scalar V H.v1) 1#32 (oddRounds (word V H.v3 i, word V H.v5 i)) := by
  unfold word scalar
  after_reads_simp
  simp only [TRef.ofBuf_toBuf]
  clean_types
  simp (discharger := decide) only [addi_at, xori_at, rot_at, spread_at, word_at, inject, oddRounds, evenRounds, mix]

/-- Rounds 5 to 8 and the injection after them. -/
theorem rounds2_at (V : Valuation τ sig (Elt F)) (i : S1024x100000.Idx) :
    (word (after (rounds2 key0 H) V) H.v69 i, word (after (rounds2 key0 H) V) H.v73 i)
      = inject (scalar V H.v1) (scalar V key0) 2#32 (evenRounds (word V H.v35 i, word V H.v39 i)) := by
  unfold word scalar
  after_reads_simp
  simp only [TRef.ofBuf_toBuf]
  clean_types
  simp (discharger := decide) only [addi_at, xori_at, rot_at, spread_at, word_at, inject, oddRounds, evenRounds, mix]

/-- Rounds 9 to 12 and the injection after them. -/
theorem rounds3_at (V : Valuation τ sig (Elt F)) (i : S1024x100000.Idx) :
    (word (after (rounds3 key0 key1 H) V) H.v103 i, word (after (rounds3 key0 key1 H) V) H.v107 i)
      = inject (scalar V key0) (scalar V key1) 3#32 (oddRounds (word V H.v69 i, word V H.v73 i)) := by
  unfold word scalar
  after_reads_simp
  simp only [TRef.ofBuf_toBuf]
  clean_types
  simp (discharger := decide) only [addi_at, xori_at, rot_at, spread_at, word_at, inject, oddRounds, evenRounds, mix]

/-- Rounds 13 to 16 and the injection after them. -/
theorem rounds4_at (V : Valuation τ sig (Elt F)) (i : S1024x100000.Idx) :
    (word (after (rounds4 key1 H) V) H.v137 i, word (after (rounds4 key1 H) V) H.v141 i)
      = inject (scalar V key1) (scalar V H.v1) 4#32 (evenRounds (word V H.v103 i, word V H.v107 i)) := by
  unfold word scalar
  after_reads_simp
  simp only [TRef.ofBuf_toBuf]
  clean_types
  simp (discharger := decide) only [addi_at, xori_at, rot_at, spread_at, word_at, inject, oddRounds, evenRounds, mix]

/-- Rounds 17 to 20 and the injection after them. -/
theorem rounds5_at (V : Valuation τ sig (Elt F)) (i : S1024x100000.Idx) :
    (word (after (rounds5 key0 H) V) H.v171 i, word (after (rounds5 key0 H) V) H.v175 i)
      = inject (scalar V H.v1) (scalar V key0) 5#32 (oddRounds (word V H.v137 i, word V H.v141 i)) := by
  unfold word scalar
  after_reads_simp
  simp only [TRef.ofBuf_toBuf]
  clean_types
  simp (discharger := decide) only [addi_at, xori_at, rot_at, spread_at, word_at, inject, oddRounds, evenRounds, mix]
/-- What the key schedule leaves: the third key word, and the counter words with the first key words added. -/
theorem schedule_at (V : Valuation τ sig (Elt F)) (i : S1024x100000.Idx) :
    scalar (after (scheduleOps key0 key1 hi lo H) V) H.v1 = third (scalar V key0) (scalar V key1)
      ∧ (word (after (scheduleOps key0 key1 hi lo H) V) H.v3 i, word (after (scheduleOps key0 key1 hi lo H) V) H.v5 i)
        = (word V hi i + scalar V key0, word V lo i + scalar V key1) := by
  unfold word scalar
  after_reads_simp
  simp only [TRef.ofBuf_toBuf]
  clean_types
  simp (discharger := decide) only [addi_at, xori_at, spread_at, third]
  exact ⟨rfl, trivial⟩

/-- The three key words hold the same in two states. -/
structure SameKeys (V V' : Valuation τ sig (Elt F)) : Prop where
  k0 : scalar V key0 = scalar V' key0
  k1 : scalar V key1 = scalar V' key1
  k2 : scalar V H.v1 = scalar V' H.v1

/-- The first group of rounds leaves the key words as they are. -/
theorem keys1 (V : Valuation τ sig (Elt F)) : SameKeys (after (rounds1 key1 H) V) V := by
  constructor <;> (unfold scalar; after_reads_simp)
/-- The second group of rounds leaves the key words as they are. -/
theorem keys2 (V : Valuation τ sig (Elt F)) : SameKeys (after (rounds2 key0 H) V) V := by
  constructor <;> (unfold scalar; after_reads_simp)
/-- The third group of rounds leaves the key words as they are. -/
theorem keys3 (V : Valuation τ sig (Elt F)) : SameKeys (after (rounds3 key0 key1 H) V) V := by
  constructor <;> (unfold scalar; after_reads_simp)
/-- The fourth group of rounds leaves the key words as they are. -/
theorem keys4 (V : Valuation τ sig (Elt F)) : SameKeys (after (rounds4 key1 H) V) V := by
  constructor <;> (unfold scalar; after_reads_simp)

/-- The key schedule leaves the first two key words as they are. -/
theorem schedule_keys (V : Valuation τ sig (Elt F)) :
    scalar (after (scheduleOps key0 key1 hi lo H) V) key0 = scalar V key0
      ∧ scalar (after (scheduleOps key0 key1 hi lo H) V) key1 = scalar V key1 := by
  constructor <;> (unfold scalar; after_reads_simp)

/-- The hash's two words at an element: the hash of the element's counter words under the two key words. -/
theorem hash_at (V : Valuation τ sig (Elt F)) (i : S1024x100000.Idx) :
    (word (after (threefryOps key0 key1 hi lo H) V) H.v171 i, word (after (threefryOps key0 key1 hi lo H) V) H.v175 i)
      = threefry (scalar V key0) (scalar V key1) (word V hi i, word V lo i) := by
  unfold threefryOps
  simp only [after_append]
  rw [rounds5_at, (keys4 _).k2, (keys4 _).k0, rounds4_at, (keys3 _).k0, (keys3 _).k1, (keys3 _).k2, rounds3_at,
    (keys2 _).k0, (keys2 _).k1, (keys2 _).k2, rounds2_at, (keys1 _).k0, (keys1 _).k1, (keys1 _).k2, rounds1_at,
    (schedule_at V i).1, (schedule_at V i).2, (schedule_keys V).1, (schedule_keys V).2]
  rfl

end Cert.Proof.Ref

end
-- ==== Proof.Noise.lean ====
/-
  The Gumbel noise made of a 23-bit draw, on the extended reals: it is a real number, and it grows strictly with the draw. The
  noisy logit of an element is therefore ordered as the element's draw is, an element that is not allowed below all others.
-/
module

public import proofs.«01_k».proof.Proof.Words
public import Idealize.ShloMosaic.PureOps.Ideal.Laws

@[expose] public section

noncomputable section

namespace Cert.Proof

open Idealize.ShloMosaic Cert.Proof.Words

/-- The lower bound of the uniform draw. -/
def tiny : Ideal .f32 := Ideal.ofBits .f32 0x00800000#32
/-- The upper bound of the uniform draw. -/
def one : Ideal .f32 := Ideal.ofBits .f32 0x3F800000#32

/-- The uniform draw made of 23 bits. -/
def uniform (w : W) : Ideal .f32 :=
  FloatOps.maximumf tiny (FloatOps.addf (FloatOps.mulf (FloatOps.subf (Ideal.ofBits .f32 (w ||| 0x3F800000#32)) one) (FloatOps.subf one tiny)) tiny)

/-- The Gumbel noise made of 23 bits. -/
def noise (w : W) : Ideal .f32 :=
  FloatOps.hostNegf (FloatOps.hostUnary .log (FloatOps.hostNegf (FloatOps.hostUnary .log (uniform w))))

/-- The logit of an element of the mask. -/
def logit (b : BitVec 1) : Ideal .f32 :=
  Scalar.select b (Ideal.ofBits .f32 0x00000000#32) (Ideal.ofBits .f32 0xFF800000#32)

/-- What a positive normal pattern denotes, from its exponent and its fraction. -/
theorem normal_eq (b : BitVec 32) (e f : ℕ) (hs : (b.extractLsb' 31 1 == 1#1) = false) (he : (b.extractLsb' 23 8).toNat = e)
    (hf : (b.extractLsb' 0 23).toNat = f) (h0 : e ≠ 0) (h1 : e ≠ 255) :
    Ideal.ofBits .f32 b = (((2 ^ 23 + f : ℝ) * 2 ^ ((e : ℤ) - 150) : ℝ) : EReal) := by
  have e1 : ¬ e = 2 ^ 8 - 1 := h1
  simp only [Ideal.ofBits, Ideal.ieee, Nat.reduceAdd, hs, he, hf, if_neg e1, if_neg h0]
  apply congrArg Real.toEReal
  rw [if_neg (by decide), one_mul]
  norm_num [sub_sub]

/-- The lower bound is the smallest normal number. -/
theorem tiny_eq : tiny = (((2 : ℝ) ^ (-126 : ℤ) : ℝ) : EReal) := by
  unfold tiny
  rw [normal_eq _ 1 0 (by decide) (by decide) (by decide) (by decide) (by decide)]
  apply congrArg Real.toEReal
  norm_num

/-- The upper bound is one. -/
theorem one_eq : one = ((1 : ℝ) : EReal) := by
  unfold one
  rw [normal_eq _ 127 0 (by decide) (by decide) (by decide) (by decide) (by decide)]
  apply congrArg Real.toEReal
  norm_num

/-- The bits of a draw, put into the fraction of the number one. -/
theorem unit_toNat (w : W) (h : w.toNat < 2 ^ 23) : (w ||| 0x3F800000#32).toNat = 2 ^ 23 * 127 + w.toNat := by
  rw [Nat.two_pow_add_eq_or_of_lt h, BitVec.toNat_or, Nat.or_comm]
  rfl

/-- The number whose fraction is a draw lies between one and two, at the draw. -/
theorem unit_eq (w : W) (h : w.toNat < 2 ^ 23) :
    Ideal.ofBits .f32 (w ||| 0x3F800000#32) = ((1 + (w.toNat : ℝ) / 2 ^ 23 : ℝ) : EReal) := by
  have hn := unit_toNat w h
  have h1 : ((w ||| 0x3F800000#32).extractLsb' 31 1 == 1#1) = false := by
    rw [beq_eq_false_iff_ne, ne_eq, ← BitVec.toNat_inj, BitVec.extractLsb'_toNat, hn, Nat.shiftRight_eq_div_pow]
    simp
    omega
  have h2 : ((w ||| 0x3F800000#32).extractLsb' 23 8).toNat = 127 := by
    rw [BitVec.extractLsb'_toNat, hn, Nat.shiftRight_eq_div_pow]
    omega
  have h3 : ((w ||| 0x3F800000#32).extractLsb' 0 23).toNat = w.toNat := by
    rw [BitVec.extractLsb'_toNat, hn, Nat.shiftRight_eq_div_pow]
    omega
  rw [normal_eq _ _ _ h1 h2 h3 (by decide) (by decide)]
  apply congrArg Real.toEReal
  norm_num
  ring

/-- The uniform draw as a real number. -/
def unif (n : ℕ) : ℝ := (n : ℝ) / 2 ^ 23 * (1 - 2 ^ (-126 : ℤ)) + 2 ^ (-126 : ℤ)

/-- The smallest normal number is positive. -/
theorem tiny_pos : (0 : ℝ) < 2 ^ (-126 : ℤ) := by positivity
/-- The smallest normal number is below one. -/
theorem tiny_lt : (2 : ℝ) ^ (-126 : ℤ) < 1 := by norm_num

/-- The uniform draw is at least its lower bound. -/
theorem unif_ge (n : ℕ) : (2 : ℝ) ^ (-126 : ℤ) ≤ unif n := by
  unfold unif
  have := mul_nonneg (div_nonneg (Nat.cast_nonneg (α := ℝ) n) (by positivity : (0 : ℝ) ≤ 2 ^ 23)) (sub_nonneg.mpr tiny_lt.le)
  linarith

/-- The uniform draw is below one. -/
theorem unif_lt_one (n : ℕ) (h : n < 2 ^ 23) : unif n < 1 := by
  unfold unif
  have h1 : (n : ℝ) / 2 ^ 23 < 1 := by
    rw [div_lt_one (by positivity)]
    exact_mod_cast h
  nlinarith [tiny_lt]

/-- The uniform draw strictly increases with the bits. -/
theorem unif_lt {m n : ℕ} (h : m < n) : unif m < unif n := by
  unfold unif
  have h1 : (m : ℝ) / 2 ^ 23 < (n : ℝ) / 2 ^ 23 := by
    apply div_lt_div_of_pos_right _ (by positivity)
    exact_mod_cast h
  have := mul_lt_mul_of_pos_right h1 (sub_pos.mpr tiny_lt)
  linarith

/-- The uniform draw is the real number `unif`. -/
theorem uniform_eq (w : W) (h : w.toNat < 2 ^ 23) : uniform w = ((unif w.toNat : ℝ) : EReal) := by
  unfold uniform
  rw [unit_eq w h, tiny_eq, one_eq]
  simp only [Ideal.maximumf_def, Ideal.addf_def, Ideal.mulf_def, Ideal.subf_def]
  rw [← EReal.coe_sub, ← EReal.coe_sub, ← EReal.coe_mul, ← EReal.coe_add, add_sub_cancel_left]
  exact max_eq_right (EReal.coe_le_coe_iff.mpr (unif_ge w.toNat))

/-- The Gumbel noise as a real number. -/
def gumbel (n : ℕ) : ℝ := -Real.log (-Real.log (unif n))

/-- The noise is the real number `gumbel`. -/
theorem noise_eq (w : W) (h : w.toNat < 2 ^ 23) : noise w = ((gumbel w.toNat : ℝ) : EReal) := by
  have h0 : 0 < unif w.toNat := tiny_pos.trans_le (unif_ge _)
  have h1 : Real.log (unif w.toNat) < 0 := Real.log_neg h0 (unif_lt_one _ h)
  unfold noise
  rw [uniform_eq w h]
  simp only [Ideal.hostNegf_def, Ideal.negf_def, Ideal.hostUnary_log_def, Ideal.log_coe]
  rw [if_neg (not_le.mpr h0), ← EReal.coe_neg, Ideal.log_coe, if_neg (by linarith), ← EReal.coe_neg]
  rfl

/-- The noise strictly increases with the bits. -/
theorem gumbel_lt {m n : ℕ} (h : m < n) (hn : n < 2 ^ 23) : gumbel m < gumbel n := by
  have h0 : 0 < unif m := tiny_pos.trans_le (unif_ge _)
  have h1 : Real.log (unif n) < 0 := Real.log_neg (tiny_pos.trans_le (unif_ge _)) (unif_lt_one _ hn)
  have h2 := Real.log_lt_log h0 (unif_lt h)
  exact neg_lt_neg (Real.log_lt_log (by linarith) (by linarith))

/-- The logit of an allowed element is zero. -/
theorem logit_true : logit 1#1 = 0 := by
  simp [logit, Scalar.select]

/-- The logit of an element that is not allowed is minus infinity. -/
theorem logit_false : logit 0#1 = ⊥ := by
  simp [logit, Scalar.select, Ideal.ofBits, Ideal.ieee]

/-- The score of an element: its draw where it is allowed, minus one where it is not. -/
def score (b : BitVec 1) (w : W) : ℤ := if b = 1#1 then w.toNat else -1

/-- The noisy logit of an element. -/
def noisy (b : BitVec 1) (w : W) : EReal := FloatOps.addf (noise w) (logit b)

/-- The noisy logit of an allowed element is its noise. -/
theorem noisy_true (w : W) (h : w.toNat < 2 ^ 23) : noisy 1#1 w = ((gumbel w.toNat : ℝ) : EReal) := by
  unfold noisy
  rw [logit_true, noise_eq w h, Ideal.addf_def, add_zero]

/-- The noisy logit of an element that is not allowed is minus infinity. -/
theorem noisy_false (w : W) : noisy 0#1 w = ⊥ := by
  unfold noisy
  rw [logit_false, Ideal.addf_def, EReal.add_bot]

/-- Noisy logits are ordered as the scores are. -/
theorem noisy_lt (b b' : BitVec 1) (w w' : W) (h : w.toNat < 2 ^ 23) (h' : w'.toNat < 2 ^ 23) (hs : score b w < score b' w') :
    noisy b w < noisy b' w' := by
  unfold score at hs
  rcases BitVec.eq_zero_or_eq_one b' with rfl | rfl
  · rw [if_neg (by decide : ¬(0#1 : BitVec 1) = 1#1)] at hs
    split at hs <;> omega
  · rw [if_pos rfl] at hs
    rw [noisy_true w' h']
    rcases BitVec.eq_zero_or_eq_one b with rfl | rfl
    · rw [noisy_false]
      exact EReal.bot_lt_coe _
    · rw [if_pos rfl] at hs
      rw [noisy_true w h, EReal.coe_lt_coe_iff]
      exact gumbel_lt (by exact_mod_cast hs) h'

/-- Equal scores give equal noisy logits. -/
theorem noisy_congr (b b' : BitVec 1) (w w' : W) (h : w.toNat < 2 ^ 23) (h' : w'.toNat < 2 ^ 23) (hs : score b w = score b' w') :
    noisy b w = noisy b' w' := by
  unfold score at hs
  rcases BitVec.eq_zero_or_eq_one b with rfl | rfl <;> rcases BitVec.eq_zero_or_eq_one b' with rfl | rfl
  · rw [noisy_false, noisy_false]
  · rw [if_neg (by decide : ¬(0#1 : BitVec 1) = 1#1), if_pos rfl] at hs
    omega
  · rw [if_neg (by decide : ¬(0#1 : BitVec 1) = 1#1), if_pos rfl] at hs
    omega
  · rw [if_pos rfl, if_pos rfl] at hs
    rw [noisy_true w h, noisy_true w' h', Nat.cast_injective hs]

end Cert.Proof

end
-- ==== Proof.RefIn.lean ====
/-
  The reference's values up to the noisy logits, element by element.
-/
module

public import proofs.«01_k».proof.Proof.RefHash
public import proofs.«01_k».proof.Proof.Noise

@[expose] public section

noncomputable section

namespace Cert.Proof.Ref

open Cert.ReferenceIdeal Cert.ReferenceIdeal.Gen Cert.Proof.Words
open Idealize.ShloMosaic Idealize.ShloMosaic.TcCoe Idealize.ShloMosaic.StableHlo Idealize.SL.Sem

/-- The contents of a buffer, at the shape and element type it is used with. -/
abbrev read {t : BufTy} (V : Valuation τ sig (Elt Ideal)) (x : TRef sig t) : t.Contents (Elt Ideal) := x.ofBuf (V (Proc.devRef .tc x.ref))

/-- The mask. -/
abbrev maskR : TRef sig ⟨S1024x100000, .i1⟩ := .of main_arg0
/-- The logits. -/
abbrev logitsR : TRef sig ⟨S1024x100000, .f32⟩ := .of main_v0
/-- The noisy logits. -/
abbrev noisyR : TRef sig ⟨S1024x100000, .f32⟩ := .of main_v9
/-- The uniform draw's lower bound, one element. -/
abbrev tinyR : TRef sig ⟨S1x1, .f32⟩ := main_call1.call0.v1
/-- The uniform draw's upper bound, one element. -/
abbrev oneR : TRef sig ⟨S1x1, .f32⟩ := main_call1.call0.v2

/-- The number of an element, computed with 64-bit words. -/
theorem number64 (r c : ℕ) (hr : r < 1024) (hc : c < 100000) :
    100000#64 * BitVec.ofNat 64 r + 1#64 * BitVec.ofNat 64 c = BitVec.ofNat 64 (100000 * r + c) := by
  apply BitVec.eq_of_toNat_eq
  simp only [BitVec.toNat_add, BitVec.toNat_mul, BitVec.toNat_ofNat]
  omega

/-- The first key word is zero. -/
theorem key0_before (V : Valuation τ sig (Elt Ideal)) : scalar (after beforeOps V) key0 = 0#32 := by
  unfold scalar
  after_reads_simp
  clean_types
  rfl

/-- The second key word is 42. -/
theorem key1_before (V : Valuation τ sig (Elt Ideal)) : scalar (after beforeOps V) key1 = 42#32 := by
  have h3 : upto beforeOps V 14 (Proc.devRef .tc main_v3) = fun _ => 0#32 := by
    after_reads_simp
    clean_types
    rfl
  have h6 : upto beforeOps V 14 (Proc.devRef .tc main_v6) = fun _ => 42#32 := by
    after_reads_simp
    clean_types
    funext _
    change 42#32 &&& 4294967295#32 = 42#32
    decide
  unfold scalar
  after_reads_simp
  rw [h3, h6]
  simp only [TRef.ofBuf, TRef.toBuf, cast_cast, cast_eq]
  rfl

/-- The lower counter word of an element is its number. -/
theorem lo_before (V : Valuation τ sig (Elt Ideal)) (i : S1024x100000.Idx) :
    word (after beforeOps V) lo i = number (i 0).val (i 1).val := by
  unfold word
  after_reads_simp
  simp only [TRef.ofBuf_toBuf]
  clean_types
  change (100000#64 * BitVec.ofNat 64 (i 0).val + 1#64 * BitVec.ofNat 64 (i 1).val).setWidth 32 = _
  rw [number64 _ _ (i 0).isLt (i 1).isLt]
  simp [number]

/-- The upper counter word of an element is zero. -/
theorem hi_before (V : Valuation τ sig (Elt Ideal)) (i : S1024x100000.Idx) : word (after beforeOps V) hi i = 0#32 := by
  unfold word
  after_reads_simp
  simp only [TRef.ofBuf_toBuf]
  clean_types
  change ((100000#64 * BitVec.ofNat 64 (i 0).val + 1#64 * BitVec.ofNat 64 (i 1).val) >>> (32#64)).setWidth 32 = _
  rw [number64 _ _ (i 0).isLt (i 1).isLt]
  have h0 : (i 0).val < 1024 := (i 0).isLt
  have h1 : (i 1).val < 100000 := (i 1).isLt
  apply BitVec.eq_of_toNat_eq
  have hn : (100000 * (i 0).val + (i 1).val) < 2 ^ 32 := by omega
  simp only [BitVec.toNat_setWidth, BitVec.ushiftRight_eq', BitVec.toNat_ushiftRight, BitVec.toNat_ofNat, Nat.shiftRight_eq_div_pow,
    Nat.reduceMod, Nat.reducePow, Nat.zero_mod]
  rw [Nat.mod_eq_of_lt (by omega : 100000 * (i 0).val + (i 1).val < 18446744073709551616), Nat.div_eq_of_lt (by omega)]

/-- The logit of an element is that of its bit of the mask. -/
theorem logits_before (V : Valuation τ sig (Elt Ideal)) (i : S1024x100000.Idx) :
    read (after beforeOps V) logitsR i = logit (read V maskR i) := by
  unfold read
  after_reads_simp
  simp only [TRef.ofBuf, TRef.toBuf, cast_cast, cast_eq]
  rfl

/-- The uniform draw's lower bound, as the operations before the hash leave it. -/
theorem tiny_before (V : Valuation τ sig (Elt Ideal)) : read (after beforeOps V) tinyR = fun _ => tiny := by
  unfold read
  after_reads_simp
  simp only [TRef.ofBuf_toBuf]
  clean_types
  rfl

/-- The uniform draw's upper bound, as the operations before the hash leave it. -/
theorem one_before (V : Valuation τ sig (Elt Ideal)) : read (after beforeOps V) oneR = fun _ => one := by
  unfold read
  after_reads_simp
  simp only [TRef.ofBuf_toBuf]
  clean_types
  rfl

/-- The hash leaves the logits and the two bounds as they are. -/
theorem hash_keeps (V : Valuation τ sig (Elt Ideal)) :
    read (after hashOps V) logitsR = read V logitsR ∧ read (after hashOps V) tinyR = read V tinyR ∧ read (after hashOps V) oneR = read V oneR := by
  refine ⟨?_, ?_, ?_⟩ <;> (unfold read; after_reads_simp)

/-- The noise leaves the logits as they are. -/
theorem noise_keeps (V : Valuation τ sig (Elt Ideal)) : read (after noiseOps V) logitsR = read V logitsR := by
  unfold read; after_reads_simp

/-- The noisy logit of an element: the noise of the upper 23 bits of its hashed word, added to its logit. -/
theorem noise_at (V : Valuation τ sig (Elt Ideal)) (ht : read V tinyR = fun _ => tiny) (ho : read V oneR = fun _ => one) (i : S1024x100000.Idx) :
    read (after noiseOps V) noisyR i = FloatOps.addf (noise (top (word V H.v171 i, word V H.v175 i))) (read V logitsR i) := by
  unfold read word at *
  after_reads_simp
  simp only [TRef.ofBuf_toBuf]
  clean_types
  simp only [ht, ho]
  rfl

/-- The logits after all operations up to the noisy logits. -/
theorem logits_at (V : Valuation τ sig (Elt Ideal)) (i : S1024x100000.Idx) :
    read (after (beforeOps ++ hashOps ++ noiseOps) V) logitsR i = logit (read V maskR i) := by
  rw [after_append, after_append, noise_keeps, (hash_keeps _).1, logits_before]

/-- The noisy logits: the noise of the element's draw, added to its logit. -/
theorem noisy_at (V : Valuation τ sig (Elt Ideal)) (i : S1024x100000.Idx) :
    read (after (beforeOps ++ hashOps ++ noiseOps) V) noisyR i
      = FloatOps.addf (noise (draw (i 0).val (i 1).val)) (logit (read V maskR i)) := by
  have hh := hash_at (after beforeOps V) i
  rw [key0_before, key1_before, hi_before, lo_before] at hh
  rw [after_append, after_append, noise_at, (hash_keeps _).1, logits_before]
  · exact congrArg (fun w => FloatOps.addf (noise (top w)) _) hh
  · rw [(hash_keeps _).2.1, tiny_before]
  · rw [(hash_keeps _).2.2, one_before]

end Cert.Proof.Ref

end
-- ==== Proof.First.lean ====
/-
  The first place at which a family takes its largest value, and a left fold that keeps the better of two values.
-/
module

public import Mathlib.Order.Basic
public import Mathlib.Data.Fin.Basic
public import Mathlib.Order.Lattice
public import Mathlib.Data.Finset.Max
public import Mathlib.Data.Fintype.Basic
public import Mathlib.Data.List.Basic

@[expose] public section

namespace Cert.Proof

/-- `j` is the first place where `v` takes its largest value. -/
def IsFirst {n : ℕ} {α : Type} [LT α] (v : Fin n → α) (j : Fin n) : Prop := ∀ k, v k < v j ∨ (v k = v j ∧ j ≤ k)

namespace IsFirst
variable {n : ℕ} {α β : Type}

/-- A family over a non-empty index range has such a place. -/
theorem exists_first [LinearOrder α] (v : Fin n → α) (h : 0 < n) : ∃ j, IsFirst v j := by
  obtain ⟨m, -, hm⟩ := Finset.exists_max_image Finset.univ v ⟨⟨0, h⟩, Finset.mem_univ _⟩
  have hne : (Finset.univ.filter fun k => v k = v m).Nonempty := ⟨m, by simp⟩
  refine ⟨(Finset.univ.filter fun k => v k = v m).min' hne, fun k => ?_⟩
  have hj := Finset.min'_mem _ hne
  rw [Finset.mem_filter] at hj
  rw [hj.2]
  rcases (hm k (Finset.mem_univ k)).lt_or_eq with h1 | h1
  · exact Or.inl h1
  · exact Or.inr ⟨h1, Finset.min'_le _ _ (by simp [h1])⟩

/-- A family whose values are ordered as another's has the same first largest place. -/
theorem map [LT α] [LT β] {s : Fin n → α} {v : Fin n → β} {j : Fin n} (h : IsFirst s j) (hlt : ∀ a b, s a < s b → v a < v b)
    (heq : ∀ a b, s a = s b → v a = v b) : IsFirst v j :=
  fun k => (h k).imp (hlt k j) (And.imp_left (heq k j))

/-- No value is above the one at the first largest place. -/
theorem le [Preorder α] {v : Fin n → α} {j : Fin n} (h : IsFirst v j) (k : Fin n) : v k ≤ v j :=
  (h k).elim le_of_lt fun e => e.1.le

end IsFirst

/-- A left fold that keeps one of its two arguments, never one whose key is below the other's, ends at a member of the list or at
    the start, with no key above it. -/
theorem foldl_best {γ κ : Type} [Preorder κ] (key : γ → κ) (f : γ → γ → γ) (hmem : ∀ a b, f a b = a ∨ f a b = b)
    (hl : ∀ a b, key a ≤ key (f a b)) (hr : ∀ a b, key b ≤ key (f a b)) (l : List γ) (z : γ) :
    (l.foldl f z = z ∨ l.foldl f z ∈ l) ∧ key z ≤ key (l.foldl f z) ∧ ∀ p ∈ l, key p ≤ key (l.foldl f z) := by
  induction l generalizing z with
  | nil => exact ⟨Or.inl rfl, le_rfl, fun p hp => absurd hp List.not_mem_nil⟩
  | cons x l ih =>
    obtain ⟨h1, h2, h3⟩ := ih (f z x)
    rw [List.foldl_cons]
    refine ⟨?_, (hl z x).trans h2, fun p hp => ?_⟩
    · rcases h1 with h1 | h1
      · rw [h1]
        exact (hmem z x).imp id fun e => by rw [e]; exact List.mem_cons_self
      · exact Or.inr (List.mem_cons_of_mem _ h1)
    · rcases List.mem_cons.mp hp with rfl | hp
      · exact (hr z p).trans h2
      · exact h3 p hp

end Cert.Proof
-- ==== Proof.RowOps.lean ====
/-
  What the reference computes for one row of an array: the first column of its largest element, the logarithm of its softmax, and
  the element at a given column.
-/
module

public import proofs.«01_k».proof.Proof.Gen.ReferenceIdeal
public import proofs.«01_k».proof.Proof.Noise
public import proofs.«01_k».proof.Proof.First
public import Idealize.ShloMosaic.Lib.ValueIdx
public import Idealize.ShloMosaic.Lib.Pipeline.Value

@[expose] public section

noncomputable section

namespace Cert.Proof.Ref

open Cert.ReferenceIdeal Cert.ReferenceIdeal.Gen
open Idealize.ShloMosaic Idealize.ShloMosaic.TcCoe Idealize.ShloMosaic.ValueIdx

/-- An array of numbers, one for each element of the mask. -/
abbrev Table := FVec Ideal S1024x100000 .f32

/-- The element of row `j` in column `k`. -/
abbrev el (j : S1024.Idx) (k : Fin 100000) : S1024x100000.Idx := ix2 (j 0) k

/-- The columns of an array reduce to its rows. -/
theorem rows : S1024x100000.Reduces [1] S1024 := by decide

/-- The element of a row at a reduced column is the one at that row and column. -/
theorem lift_eq (j : S1024.Idx) (k : Fin 100000) : rows.lift j k = el j k := by
  funext c
  match c with
  | ⟨0, _⟩ => rfl
  | ⟨1, _⟩ => rfl

/-! ## The first column of the largest element -/

/-- Each row's largest element, and its first column. -/
def rowBest (x : Table) : S1024.Idx → Ideal .f32 × BitVec 32 :=
  Host.argReduce reducer_argmax_f32_i32 x (iotaInDim S1024x100000 32 1) (constant S_ .f32 0xFF800000#32) (constantI S_ 32 0#32)
    reducesTo_S1024x100000_S1024_d1 h_S_

/-- A pair of a value and a column, ordered by the value, and for equal values with the smaller column above. -/
def key (p : Ideal .f32 × BitVec 32) : EReal ×ₗ ℤ := toLex (p.1, -p.2.toInt)

/-- Of two pairs the argmax keeps the one of the larger key. -/
theorem reducer_eq (a b : Ideal .f32 × BitVec 32) :
    reducer_argmax_f32_i32 a b = (if key b < key a then a else b) := by
  obtain ⟨a1, a2⟩ := a
  obtain ⟨b1, b2⟩ := b
  have hk : key (b1, b2) < key (a1, a2) ↔ (b1 : EReal) < a1 ∨ ((b1 : EReal) = a1 ∧ a2.toInt < b2.toInt) := by
    unfold key
    rw [Prod.Lex.toLex_lt_toLex]
    simp
  rcases lt_trichotomy (b1 : EReal) a1 with h | h | h
  · rw [if_pos (hk.mpr (Or.inl h))]
    have hne : ¬ (a1 : EReal) = b1 := h.ne'
    simp [reducer_argmax_f32_i32, Ideal.cmpf_def, Ideal.cmp, IntOp.cmpi, IntOp.ori, IntOp.andi, Scalar.select, h, hne]
  · subst h
    by_cases h2 : a2.toInt < b2.toInt
    · rw [if_pos (hk.mpr (Or.inr ⟨rfl, h2⟩))]
      simp [reducer_argmax_f32_i32, Ideal.cmpf_def, Ideal.cmp, IntOp.cmpi, IntOp.ori, IntOp.andi, Scalar.select, BitVec.slt, h2]
    · rw [if_neg (fun hh => (hk.mp hh).elim (lt_irrefl _) fun e => h2 e.2)]
      simp [reducer_argmax_f32_i32, Ideal.cmpf_def, Ideal.cmp, IntOp.cmpi, IntOp.ori, IntOp.andi, Scalar.select, BitVec.slt, h2]
  · rw [if_neg (fun hh => (hk.mp hh).elim (lt_asymm h) fun e => h.ne e.1.symm)]
    simp [reducer_argmax_f32_i32, Ideal.cmpf_def, Ideal.cmp, IntOp.cmpi, IntOp.ori, IntOp.andi, Scalar.select, h.not_gt, h.ne]

/-- A column number as a word is that number, with sign. -/
theorem column_toInt (c : ℕ) (hc : c < 100000) : (BitVec.ofNat 32 c).toInt = c := by
  rw [BitVec.toInt_eq_toNat_of_lt, BitVec.toNat_ofNat, Nat.mod_eq_of_lt (by omega)]
  rw [BitVec.toNat_ofNat, Nat.mod_eq_of_lt (by omega)]
  omega

/-- The pattern of minus infinity denotes the least extended real. -/
theorem neg_infinity : Ideal.ofBits .f32 0xFF800000#32 = (⊥ : EReal) := by
  simp [Ideal.ofBits, Ideal.ieee]

/-- The pairs of a row: one for each of its columns. -/
theorem mem_fiber (x : Table) (j : S1024.Idx) (p : Ideal .f32 × BitVec 32) :
    p ∈ Host.argReduceFiber x (iotaInDim S1024x100000 32 1) reducesTo_S1024x100000_S1024_d1 j
      ↔ ∃ k : Fin 100000, (x (el j k), BitVec.ofNat 32 k.val) = p := by
  unfold Host.argReduceFiber
  simp only [List.mem_map, List.mem_filter, List.mem_finRange, true_and, decide_eq_true_eq]
  constructor
  · rintro ⟨n, hn, rfl⟩
    refine ⟨S1024x100000.rowMajor.symm n 1, ?_⟩
    have e : el j (S1024x100000.rowMajor.symm n 1) = S1024x100000.rowMajor.symm n := by
      refine (lift_eq j _).symm.trans ?_
      rw [← hn]
      exact rows.lift_drop _
    rw [e]
    rfl
  · rintro ⟨k, rfl⟩
    refine ⟨S1024x100000.rowMajor (el j k), ?_, ?_⟩
    · rw [Equiv.symm_apply_apply, ← lift_eq]
      exact rows.drop_lift j k
    · rw [Equiv.symm_apply_apply]
      rfl

/-- The fold of a list of such pairs ends at the first column of the largest value. -/
theorem fold_first (v : Fin 100000 → EReal) (l : List (Ideal .f32 × BitVec 32)) (hl : ∀ p, p ∈ l ↔ ∃ k : Fin 100000, (v k, BitVec.ofNat 32 k.val) = p)
    (z : Ideal .f32 × BitVec 32) (hz : z.1 = (⊥ : EReal)) (a : Fin 100000) (hf : IsFirst v a) (hb : ⊥ < v a) :
    (l.foldl reducer_argmax_f32_i32 z).2 = BitVec.ofNat 32 a.val := by
  obtain ⟨h1, -, h3⟩ := foldl_best key reducer_argmax_f32_i32
    (fun a b => by rw [reducer_eq]; split <;> simp)
    (fun a b => by
      rw [reducer_eq]
      split
      · exact le_rfl
      · exact not_lt.mp ‹_›)
    (fun a b => by
      rw [reducer_eq]
      split
      · exact le_of_lt ‹_›
      · exact le_rfl)
    l z
  generalize l.foldl reducer_argmax_f32_i32 z = r at *
  have ha := h3 _ ((hl _).mpr ⟨a, rfl⟩)
  rcases h1 with h1 | h1
  · rw [h1] at ha
    unfold key at ha
    rw [Prod.Lex.toLex_le_toLex] at ha
    simp only [hz] at ha
    rcases ha with ha | ha
    · exact absurd ha not_lt_bot
    · exact absurd ha.1 hb.ne'
  · obtain ⟨k, hk⟩ := (hl _).mp h1
    rw [← hk] at ha ⊢
    unfold key at ha
    rw [Prod.Lex.toLex_le_toLex] at ha
    simp only [column_toInt _ k.isLt, column_toInt _ a.isLt] at ha
    have e : k = a := by
      rcases hf k with h | h
      · rcases ha with ha | ha
        · exact absurd ha (lt_asymm h)
        · exact absurd ha.1 h.ne'
      · rcases ha with ha | ha
        · exact absurd h.1 ha.ne'
        · apply le_antisymm _ h.2
          rw [Fin.le_def]
          have := ha.2
          omega
    rw [e]

/-- The two-operand reduction of a row is the fold of the row's pairs. -/
theorem argReduce_eq (f : Ideal .f32 × BitVec 32 → Ideal .f32 × BitVec 32 → Ideal .f32 × BitVec 32) (x : Table) (y : IVec S1024x100000 32)
    (ix : FVec Ideal S_ .f32) (iy : IVec S_ 32) (j : S1024.Idx) :
    Host.argReduce f x y ix iy reducesTo_S1024x100000_S1024_d1 h_S_ j
      = (Host.argReduceFiber x y reducesTo_S1024x100000_S1024_d1 j).foldl f (ix (Shape.Idx.first h_S_), iy (Shape.Idx.first h_S_)) :=
  (congrFun (Ideal.argReduce_eq_reduce2 f x y ix iy reducesTo_S1024x100000_S1024_d1 h_S_) j).trans
    (Host.reduce2_eq_foldl_fiber f x y ix iy reducesTo_S1024x100000_S1024_d1 h_S_ j)

/-- Each row's largest element and its column, as a fold over the row's pairs. -/
theorem rowBest_eq (x : Table) (j : S1024.Idx) :
    rowBest x j = (Host.argReduceFiber x (iotaInDim S1024x100000 32 1) reducesTo_S1024x100000_S1024_d1 j).foldl reducer_argmax_f32_i32
      (constant S_ .f32 0xFF800000#32 (Shape.Idx.first h_S_), constantI S_ 32 0#32 (Shape.Idx.first h_S_)) :=
  argReduce_eq reducer_argmax_f32_i32 x (iotaInDim S1024x100000 32 1) (constant S_ .f32 0xFF800000#32) (constantI S_ 32 0#32) j

/-- The reference's choice in a row is the first column of the row's largest element. -/
theorem rowBest_first (x : Table) (j : S1024.Idx) (a : Fin 100000) (hf : IsFirst (fun k => (x (el j k) : EReal)) a)
    (hb : (⊥ : EReal) < x (el j a)) : (rowBest x j).2 = BitVec.ofNat 32 a.val := by
  have h := mem_fiber x j
  rw [rowBest_eq]
  generalize Host.argReduceFiber x (iotaInDim S1024x100000 32 1) reducesTo_S1024x100000_S1024_d1 j = l at h ⊢
  exact fold_first (fun k => (x (el j k) : EReal)) l h _ neg_infinity a hf hb

end Cert.Proof.Ref

end
-- ==== Proof.RowSoft.lean ====
/-
  The logarithm of the softmax of a row of logits, where a logit is zero or minus infinity: minus the logarithm of the number of
  zeros, at each of them.
-/
module

public import proofs.«01_k».proof.Proof.RowOps

@[expose] public section

noncomputable section

namespace Cert.Proof.Ref

open Cert.ReferenceIdeal Cert.ReferenceIdeal.Gen
open Idealize.ShloMosaic Idealize.ShloMosaic.TcCoe Idealize.ShloMosaic.ValueIdx

/-- Each row's largest element, from minus infinity. -/
def rowMax (x : Table) : FVec Ideal S1024 .f32 :=
  maximumf (broadcastInDim S1024 ![] bcast_S_S1024 (constant S_ .f32 0xFF800000#32))
    (Host.reduce FloatOps.maximumf x (constant S_ .f32 0xFF800000#32) reducesTo_S1024x100000_S1024_d1 h_S_)

/-- A value per row, as a column. -/
def column (v : FVec Ideal S1024 .f32) : FVec Ideal S1024x1 .f32 := broadcastInDim S1024x1 ![0] bcast_S1024_S1024x1_0 v

/-- A column, spread over the rows. -/
def spread (v : FVec Ideal S1024x1 .f32) : Table := broadcastInDim S1024x100000 ![0, 1] bcast_S1024x1_S1024x100000_0_1 v

/-- Each element less its row's largest. -/
def shifted (x : Table) : Table := subf x (spread (column (rowMax x)))

/-- Each row's sum of the exponentials. -/
def rowSum (x : Table) : FVec Ideal S1024 .f32 :=
  Host.reduceAdd (Host.exp (shifted x)) (constant S_ .f32 0x00000000#32) reducesTo_S1024x100000_S1024_d1 h_S_

/-- The logarithm of the softmax of each row. -/
def logSoft (x : Table) : Table := subf (shifted x) (spread (Host.log (column (rowSum x))))

/-- A column of values, at a row. -/
theorem column_eq (v : FVec Ideal S1024 .f32) (j : S1024.Idx) : column v (ix2 (j 0) (0 : Fin 1)) = v j :=
  broadcastInDim_apply _ _ v _ j (fun a => by match a with | ⟨0, _⟩ => rfl)

/-- A column spread over the rows, at an element. -/
theorem spread_eq (v : FVec Ideal S1024x1 .f32) (j : S1024.Idx) (k : Fin 100000) : spread v (el j k) = v (ix2 (j 0) (0 : Fin 1)) :=
  broadcastInDim_apply _ _ v _ (ix2 (j 0) (0 : Fin 1)) (fun a => by match a with | ⟨0, _⟩ => rfl | ⟨1, _⟩ => rfl)

/-- The logarithm of a column, at an element. -/
theorem log_eq (v : FVec Ideal S1024x1 .f32) (i : S1024x1.Idx) : Host.log v i = Ideal.log (v i) := rfl

/-- A difference of arrays, at an element. -/
theorem subf_eq (u v : Table) (i : S1024x100000.Idx) : subf u v i = (u i - v i : EReal) := rfl

variable (x : Table) (j : S1024.Idx) (m : Fin 100000 → BitVec 1) (hx : ∀ k, x (el j k) = logit (m k)) (a : Fin 100000) (ha : m a = 1#1)

/-- A logit is at most zero. -/
theorem logit_le (b : BitVec 1) : (logit b : EReal) ≤ 0 := by
  rcases BitVec.eq_zero_or_eq_one b with rfl | rfl
  · rw [logit_false]; exact bot_le
  · rw [logit_true]

/-- The largest element of a row, as a fold over its columns. -/
theorem reduceMax_eq (y : S1024x100000.Idx → EReal) (z : S_.Idx → EReal) (j : S1024.Idx) :
    Host.reduce max y z reducesTo_S1024x100000_S1024_d1 h_S_ j
      = (Finset.univ : Finset (Fin 100000)).fold max (z (Shape.Idx.first h_S_)) (fun k => y (el j k)) := by
  have h := Host.reduce_eq_fold max y z reducesTo_S1024x100000_S1024_d1 h_S_ j
  rw [Shape.ReducesTo.drop_eq_drop reducesTo_S1024x100000_S1024_d1 rows, rows.fold_filter_drop_single] at h
  have e : y ∘ rows.lift j = fun k => y (el j k) := funext fun k => congrArg y (lift_eq j k)
  rw [e] at h
  exact h

/-- The largest of a family that is at most zero and somewhere zero is zero. -/
theorem fold_max_eq (v : Fin 100000 → EReal) (hv : ∀ k, v k ≤ 0) (a : Fin 100000) (ha : v a = 0) :
    (Finset.univ : Finset (Fin 100000)).fold max ⊥ v = 0 := by
  apply le_antisymm
  · exact (Finset.fold_max_le _).mpr ⟨bot_le, fun k _ => hv k⟩
  · exact (Finset.le_fold_max _).mpr (Or.inr ⟨a, Finset.mem_univ _, ha.ge⟩)

/-- The maximum of numbers is the maximum of extended reals. -/
theorem reduce_maximumf (y : Table) (z : FVec Ideal S_ .f32) :
    Host.reduce FloatOps.maximumf y z reducesTo_S1024x100000_S1024_d1 h_S_
      = Host.reduce (max : EReal → EReal → EReal) y z reducesTo_S1024x100000_S1024_d1 h_S_ := rfl

/-- A maximum of two values per row, at a row. -/
theorem maximumf_eq (u v : FVec Ideal S1024 .f32) : maximumf u v j = (max (u j) (v j) : EReal) := rfl

/-- The constant minus infinity is the least extended real. -/
theorem const_infinity : (constant S_ .f32 0xFF800000#32 : FVec Ideal S_ .f32) = fun _ => (⊥ : EReal) := funext fun _ => neg_infinity

/-- Minus infinity spread over the rows, at a row. -/
theorem spread_infinity : broadcastInDim S1024 ![] bcast_S_S1024 (fun _ : S_.Idx => (⊥ : EReal)) j = ⊥ := rfl

include hx ha in
/-- The largest element of a row with an allowed element is zero. -/
theorem rowMax_eq : rowMax x j = (0 : EReal) := by
  unfold rowMax
  rw [maximumf_eq, reduce_maximumf, const_infinity, reduceMax_eq, spread_infinity,
    fold_max_eq (fun k => x (el j k)) (fun k => by rw [hx]; exact logit_le _) a (by rw [hx, ha, logit_true])]
  exact max_eq_right bot_le

include hx ha in
/-- In a row with an allowed element, an element less the largest one is its logit. -/
theorem shifted_eq (k : Fin 100000) : shifted x (el j k) = (logit (m k) : EReal) := by
  unfold shifted
  rw [subf_eq, spread_eq, column_eq, rowMax_eq x j m hx a ha, hx, sub_zero]

include hx ha in
/-- The sum of a row is the number of its allowed elements. -/
theorem rowSum_eq : rowSum x j = (((Finset.univ.filter fun k => m k = 1#1).card : ℝ) : EReal) := by
  unfold rowSum Host.reduceAdd
  rw [Ideal.hostReduceAdd_def, Ideal.hostReduceAdd_single reducesTo_S1024x100000_S1024_d1 rows]
  have hz : (constant S_ .f32 0x00000000#32 (Shape.Idx.first h_S_) : Ideal .f32) = (0 : EReal) := Ideal.ofBits_zero_f32
  rw [hz, zero_add]
  have e : ∀ k : Fin 100000, Host.exp (shifted x) (rows.lift j k) = if m k = 1#1 then (1 : EReal) else 0 := by
    intro k
    change Ideal.exp (shifted x (rows.lift j k)) = _
    rw [lift_eq, shifted_eq x j m hx a ha]
    rcases BitVec.eq_zero_or_eq_one (m k) with h | h
    · rw [h, logit_false, Ideal.exp_bot, if_neg (by decide)]
    · rw [h, logit_true, if_pos rfl, ← EReal.coe_zero, Ideal.exp_coe, Real.exp_zero, EReal.coe_one]
  refine (Finset.sum_congr rfl fun k _ => e k).trans ((Finset.sum_boole (fun k : Fin 100000 => m k = 1#1) Finset.univ).trans ?_)
  exact (EReal.coe_natCast).symm

/-- The log-probability of each of `n` equally likely elements. -/
def logProb (n : ℕ) : EReal := 0 - Ideal.log ((n : ℝ) : EReal)

/-- The logarithm of the softmax is the shifted element less the logarithm of the row sum. -/
theorem logSoft_sub (k : Fin 100000) : logSoft x (el j k) = (shifted x (el j k) - Ideal.log (rowSum x j) : EReal) := by
  unfold logSoft
  rw [subf_eq, spread_eq, log_eq, column_eq]

include hx ha in
/-- The logarithm of the softmax at an allowed element. -/
theorem logSoft_eq : logSoft x (el j a) = logProb (Finset.univ.filter fun k => m k = 1#1).card := by
  have h := rowSum_eq x j m hx a ha
  generalize (Finset.univ.filter fun k => m k = 1#1).card = n at h ⊢
  refine (logSoft_sub x j a).trans ?_
  rw [shifted_eq x j m hx a ha, ha, logit_true, h, logProb]

end Cert.Proof.Ref

end
-- ==== Proof.RowTake.lean ====
/-
  One element of each row of an array, chosen by a column: the way `take_along_axis` computes it, with a negative column counted
  from the end and a column outside the row answered by a NaN.  For a column of the row it is the row's element there.
-/
module

public import proofs.«01_k».proof.Proof.RowSoft

@[expose] public section

noncomputable section

namespace Cert.Proof.Ref

open Cert.ReferenceIdeal Cert.ReferenceIdeal.Gen
open Idealize.ShloMosaic Idealize.ShloMosaic.TcCoe Idealize.ShloMosaic.ValueIdx

/-- The columns, a negative one counted from the row's end. -/
def wrapped (c : IVec S1024x1 32) : IVec S1024x1 32 :=
  select (cmpi .slt c (broadcastInDim S1024x1 ![] bcast_S_S1024x1 (constantI S_ 32 0#32)))
    (addi c (broadcastInDim S1024x1 ![] bcast_S_S1024x1 (constantI S_ 32 100000#32))) c

/-- The same as start indices of the reads. -/
def starts (c : IVec S1024x1 32) : IVec S1024x1x1 32 := shapeCast S1024x1x1 (wrapped c) shapeCasts_S1024x1_S1024x1x1

/-- Whether a start index lies in the row. -/
def inside (s : IVec S1024x1x1 32) : IVec S1024x1x1 1 :=
  andi (cmpi .sge s (broadcastInDim S1024x1x1 ![] bcast_S_S1024x1x1 (constantI S_ 32 0#32)))
    (cmpi .sle s (broadcastInDim S1024x1x1 ![0, 1, 2] bcast_S1x1x1_S1024x1x1_0_1_2
      (broadcastInDim S1x1x1 ![2] bcast_S1_S1x1x1_2 (constantI S1 32 99999#32))))

/-- Whether all of a row's start indices do. -/
def within (s : IVec S1024x1x1 32) : IVec S1024x1 1 :=
  Host.reduce IntOp.andi (inside s) (constantI S_ 1 1#1) reducesTo_S1024x1x1_S1024x1_d2 h_S_

/-- The elements read, as a column. -/
def picked (x : Table) (c : IVec S1024x1 32) : FVec Ideal S1024x1 .f32 :=
  select (within (starts c)) (Host.gather gather_S1024x100000_S1024x1x1_S1024x1_n_1_0_0_1_2_11 x (starts c))
    (broadcastInDim S1024x1 ![] bcast_S_S1024x1 (constant S_ .f32 0x7FC00000#32))

/-- One element of each row, chosen by a column. -/
def taken (x : Table) (a : IVec S1024 32) : FVec Ideal S1024 .f32 :=
  shapeCast S1024 (picked x (broadcastInDim S1024x1 ![0] bcast_S1024_S1024x1_0 a)) shapeCasts_S1024x1_S1024

/-- The entry of a column, and the one of its start indices. -/
abbrev at1 (j : S1024.Idx) : S1024x1.Idx := ix2 (j 0) (0 : Fin 1)
/-- The one index of a row in an array with two axes of size one. -/
abbrev at2 (j : S1024.Idx) : S1024x1x1.Idx := ix3 (j 0) (0 : Fin 1) (0 : Fin 1)

/-- The taken element of a row, with the trailing axis of size one still there. -/
theorem taken_eq (x : Table) (a : IVec S1024 32) (j : S1024.Idx) :
    taken x a j = picked x (broadcastInDim S1024x1 ![0] bcast_S1024_S1024x1_0 a) (at1 j) := by
  refine shapeCast_apply _ _ _ _ ?_
  rw [Shape.rowMajor_val_two, Shape.rowMajor_val_one]
  show (j 0).val * 1 + 0 = (j 0).val
  omega

/-- A column of column numbers, at a row. -/
theorem column_of (a : IVec S1024 32) (j : S1024.Idx) : broadcastInDim S1024x1 ![0] bcast_S1024_S1024x1_0 a (at1 j) = a j :=
  broadcastInDim_apply _ _ a _ j (fun d => by match d with | ⟨0, _⟩ => rfl)

variable (c : IVec S1024x1 32) (j : S1024.Idx) (n : ℕ) (hn : n < 100000) (hc : c (at1 j) = BitVec.ofNat 32 n)

include hn in
/-- A column number is not negative. -/
theorem column_nonneg : IntOp.cmpi .slt (BitVec.ofNat 32 n) 0#32 = 0#1 := by
  have h := column_toInt n hn
  have h1 : ¬ (n : ℤ) < 0 := by omega
  simp only [IntOp.cmpi, BitVec.slt, h, BitVec.toInt_zero, h1, decide_false, BitVec.ofBool_false]
  rfl

include hn hc in
/-- A column of the row is not changed. -/
theorem wrapped_eq : wrapped c (at1 j) = BitVec.ofNat 32 n := by
  show Scalar.select (IntOp.cmpi .slt (c (at1 j)) 0#32) (IntOp.addi (c (at1 j)) 100000#32) (c (at1 j)) = _
  rw [hc, column_nonneg n hn]
  rfl

include hn hc in
/-- The column an element is taken from, of a row. -/
theorem starts_eq : starts c (at2 j) = BitVec.ofNat 32 n := by
  refine (shapeCast_apply _ _ _ (at1 j) ?_).trans (wrapped_eq c j n hn hc)
  rw [Shape.rowMajor_val_two, Shape.rowMajor_val_three]
  show (j 0).val * 1 + 0 = ((j 0).val * 1 + 0) * 1 + 0
  omega

/-- A column number below the number of columns lies inside. -/
theorem inside_eq (s : IVec S1024x1x1 32) (hn : n < 100000) (hs : s (at2 j) = BitVec.ofNat 32 n) : inside s (at2 j) = 1#1 := by
  show IntOp.andi (IntOp.cmpi .sge (s (at2 j)) 0#32) (IntOp.cmpi .sle (s (at2 j)) 99999#32) = 1#1
  rw [hs]
  have h := column_toInt n hn
  have h1 : (n : ℤ) ≤ 99999 := by omega
  simp [IntOp.cmpi, IntOp.andi, BitVec.sle, BitVec.slt, h, h1]

/-- An axis of size one reduces away. -/
theorem single : S1024x1x1.Reduces [2] S1024x1 := by decide

/-- The only element over a row of the reduced axis. -/
theorem single_lift (j : S1024.Idx) (k : Fin 1) : single.lift (at1 j) k = at2 j := by
  obtain rfl : k = 0 := Subsingleton.elim _ _
  funext d
  match d with
  | ⟨0, _⟩ => rfl
  | ⟨1, _⟩ => rfl
  | ⟨2, _⟩ => rfl

/-- A start index in the row passes the test. -/
theorem within_eq (s : IVec S1024x1x1 32) (hn : n < 100000) (hs : s (at2 j) = BitVec.ofNat 32 n) : within s (at1 j) = 1#1 := by
  have h := Host.reduce_eq_fold IntOp.andi (inside s) (constantI S_ 1 1#1) reducesTo_S1024x1x1_S1024x1_d2 h_S_ (at1 j)
  rw [Shape.ReducesTo.drop_eq_drop reducesTo_S1024x1x1_S1024x1_d2 single, single.fold_filter_drop_single] at h
  have e : inside s ∘ single.lift (at1 j) = fun _ => 1#1 := funext fun k =>
    (congrArg (inside s) (single_lift j k)).trans (inside_eq j n s hn hs)
  rw [e] at h
  exact h

/-- The dimension numbers of the reads. -/
abbrev reads := gather_S1024x100000_S1024x1x1_S1024x1_n_1_0_0_1_2_11

/-- The element a row's start index reads. -/
theorem gather_eq (x : Table) (s : IVec S1024x1x1 32) (hs : s (at2 j) = BitVec.ofNat 32 n) (hn : n < 100000) :
    Host.gather reads x s (at1 j) = x (el j ⟨n, hn⟩) := by
  unfold Host.gather
  refine congrArg x (funext fun d => Fin.ext ?_)
  show reads.start (at1 j) s d + reads.batchCoord (at1 j) d + reads.offCoord (at1 j) d = _
  have h01 : d = 0 ∨ d = 1 := by
    match d with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ reads.operandBatchingDims from List.mem_singleton.mpr rfl)]
    rfl
  · have hnot : (1 : Fin 2) ∉ reads.operandBatchingDims := by decide
    rw [GatherDims.batchCoord_eq_zero _ _ _ hnot,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ reads.startIndexMap from List.mem_singleton.mpr rfl)]
    have e : reads.siIdx (at1 j) ⟨List.idxOf (1 : Fin 2) reads.startIndexMap,
        List.idxOf_lt_length_iff.2 (List.mem_singleton.mpr rfl)⟩ = at2 j := by
      funext b
      refine Fin.ext ?_
      match b with
      | ⟨0, _⟩ => rfl
      | ⟨1, _⟩ => rfl
      | ⟨2, _⟩ => rfl
    rw [e]
    show min (s (at2 j)).toInt.toNat (100000 - 1) = n
    rw [hs, column_toInt n hn]
    omega

include hn hc in
/-- The element picked at a column inside is the element of that column. -/
theorem picked_eq (x : Table) : picked x c (at1 j) = x (el j ⟨n, hn⟩) := by
  have hs := starts_eq c j n hn hc
  unfold picked
  refine (congrArg (fun b => Scalar.select b _ _) (within_eq j n (starts c) hn hs)).trans ?_
  exact gather_eq j n x (starts c) hs hn

/-- The element of a row in a column of the row. -/
theorem taken_at (x : Table) (a : IVec S1024 32) (j : S1024.Idx) (k : Fin 100000) (ha : a j = BitVec.ofNat 32 k.val) :
    taken x a j = x (el j k) :=
  (taken_eq x a j).trans (picked_eq _ j k.val k.isLt ((column_of a j).trans ha) x)

end Cert.Proof.Ref

end
-- ==== Proof.RefOut.lean ====
/-
  The reference's two results from the noisy logits and the logits: the first column of a row's largest noisy logit, and the
  logarithm of the softmax of the row's logits there.
-/
module

public import proofs.«01_k».proof.Proof.RefIn
public import proofs.«01_k».proof.Proof.RowTake

@[expose] public section

noncomputable section

namespace Cert.Proof.Ref

open Cert.ReferenceIdeal Cert.ReferenceIdeal.Gen Cert.Proof.Words
open Idealize.ShloMosaic Idealize.ShloMosaic.TcCoe Idealize.ShloMosaic.StableHlo Idealize.SL.Sem
open Idealize.ShloMosaic.ValueIdx
variable (V : Valuation τ sig (Elt Ideal))

/-- The actions. -/
abbrev actionR : TRef sig ⟨S1024, .i32⟩ := .of main_v10
/-- The logarithm of the softmax. -/
abbrev softR : TRef sig ⟨S1024x100000, .f32⟩ := .of main_v11
/-- The log probabilities. -/
abbrev logProbR : TRef sig ⟨S1024, .f32⟩ := .of main_v14

/-- The actions are the first columns of the rows' largest noisy logits. -/
theorem argmax_at : read (after (argmaxOps (.of main_v9) main_call2) V) actionR = fun j => (rowBest (read V noisyR) j).2 := by
  unfold read
  after_reads_simp
  simp only [TRef.ofBuf_toBuf]
  clean_types
  unfold rowBest
  rfl

/-- They leave the logits as they are. -/
theorem argmax_keeps : read (after (argmaxOps (.of main_v9) main_call2) V) logitsR = read V logitsR := by
  unfold read
  after_reads_simp

/-- The log probabilities of all the columns. -/
theorem soft_at : read (after (softmaxOps (.of main_v0) main_call3) V) softR = logSoft (read V logitsR) := by
  unfold read
  after_reads_simp
  simp only [TRef.ofBuf_toBuf]
  clean_types
  unfold logSoft rowSum shifted rowMax column spread
  rfl

/-- They leave the actions as they are. -/
theorem soft_keeps : read (after (softmaxOps (.of main_v0) main_call3) V) actionR = read V actionR := by
  unfold read
  after_reads_simp

/-- The log probabilities of the actions. -/
theorem take_at : read (after (columnOps ++ takeOps (.of main_v11) (.of main_v12) main_call4 ++ flatOps) V) logProbR
    = taken (read V softR) (read V actionR) := by
  unfold read
  after_reads_simp
  simp only [TRef.ofBuf_toBuf]
  clean_types
  unfold taken picked within inside starts wrapped
  rfl

/-- They leave the actions as they are. -/
theorem take_keeps : read (after (columnOps ++ takeOps (.of main_v11) (.of main_v12) main_call4 ++ flatOps) V) actionR
    = read V actionR := by
  unfold read
  after_reads_simp

/-- The logits, as the softmax reads them, are those of the mask. -/
theorem noiseless (i : S1024x100000.Idx) :
    read (after (argmaxOps (.of main_v9) main_call2) (after (beforeOps ++ hashOps ++ noiseOps) V)) logitsR i = logit (read V maskR i) := by
  rw [argmax_keeps, logits_at]

/-- The operations in the order they are read in. -/
theorem ops_eq : (ops : List (HloOp τ sig (Elt Ideal))) = (beforeOps ++ hashOps ++ noiseOps) ++ (argmaxOps (.of main_v9) main_call2
    ++ (softmaxOps (.of main_v0) main_call3 ++ (columnOps ++ takeOps (.of main_v11) (.of main_v12) main_call4 ++ flatOps))) := by
  unfold ops resultOps
  simp only [List.append_assoc]

variable (j : S1024.Idx) (a : Fin 100000)
  (hf : IsFirst (fun k => score (read V maskR (el j k)) (draw (j 0).val k.val)) a) (ha : read V maskR (el j a) = 1#1)

include hf ha in
/-- The first column of a row's largest noisy logit is the one of the largest draw among the allowed columns. -/
theorem best_eq : (rowBest (read (after (beforeOps ++ hashOps ++ noiseOps) V) noisyR) j).2 = BitVec.ofNat 32 a.val := by
  have e : ∀ k, (read (after (beforeOps ++ hashOps ++ noiseOps) V) noisyR (el j k) : EReal)
      = noisy (read V maskR (el j k)) (draw (j 0).val k.val) := fun k => noisy_at V (el j k)
  apply rowBest_first
  · refine IsFirst.map hf (fun k l h => ?_) (fun k l h => ?_)
    · show (read _ noisyR (el j k) : EReal) < read _ noisyR (el j l)
      rw [e k, e l]
      exact noisy_lt _ _ _ _ (draw_lt _ _) (draw_lt _ _) h
    · show (read _ noisyR (el j k) : EReal) = read _ noisyR (el j l)
      rw [e k, e l]
      exact noisy_congr _ _ _ _ (draw_lt _ _) (draw_lt _ _) h
  · rw [e a, ha, noisy_true _ (draw_lt _ _)]
    exact EReal.bot_lt_coe _

include hf ha in
/-- The reference's action in a row with an allowed column: the first allowed column of the largest draw. -/
theorem action_at : read (after ops V) actionR j = BitVec.ofNat 32 a.val := by
  rw [ops_eq, after_append, after_append, after_append, take_keeps, soft_keeps, argmax_at]
  exact best_eq V j a hf ha

include hf ha in
/-- The reference's log probability there: minus the logarithm of the number of the row's allowed columns. -/
theorem logProb_at : (read (after ops V) logProbR j : EReal)
    = logProb (Finset.univ.filter fun k => read V maskR (el j k) = 1#1).card := by
  rw [ops_eq, after_append, after_append, after_append, take_at]
  have h1 : read (after (softmaxOps (.of main_v0) main_call3) (after (argmaxOps (.of main_v9) main_call2)
      (after (beforeOps ++ hashOps ++ noiseOps) V))) actionR j = BitVec.ofNat 32 a.val := by
    rw [soft_keeps, argmax_at]
    exact best_eq V j a hf ha
  rw [taken_at _ _ j a h1, soft_at]
  exact logSoft_eq _ j (fun k => read V maskR (el j k)) (fun k => noiseless V (el j k)) a ha

end Cert.Proof.Ref

end
-- ==== Proof.Answer.lean ====
/-
  What both programs compute in a row, from the row's mask: the first allowed column of the largest draw, and the number of allowed
  columns.
-/
module

public import proofs.«01_k».proof.Proof.First
public import proofs.«01_k».proof.Proof.Noise
public import proofs.«01_k».proof.Proof.Words
public import Idealize.ShloMosaic.Lib.ValueIdx

@[expose] public section

noncomputable section

namespace Cert.Proof

open Idealize.ShloMosaic Idealize.ShloMosaic.ValueIdx Cert.Proof.Words

/-- A mask over the rows and columns. -/
abbrev Mask := IVec ⟨2, ![1024, 100000]⟩ 1

/-- The score of each column of row `r`. -/
def scores (M : Mask) (r : Fin 1024) (k : Fin 100000) : ℤ := score (M (ix2 r k)) (draw r.val k.val)

/-- The first column of the largest score of row `r`. -/
def pick (M : Mask) (r : Fin 1024) : Fin 100000 := Classical.choose (IsFirst.exists_first (scores M r) (by decide))

/-- The picked column is the first column of the largest score. -/
theorem pick_first (M : Mask) (r : Fin 1024) : IsFirst (scores M r) (pick M r) :=
  Classical.choose_spec (IsFirst.exists_first (scores M r) (by decide))

/-- The number of allowed columns of row `r`. -/
def allowed (M : Mask) (r : Fin 1024) : ℕ := (Finset.univ.filter fun k : Fin 100000 => M (ix2 r k) = 1#1).card

/-- In a row with an allowed column, the first column of the largest score is allowed. -/
theorem pick_allowed (M : Mask) (r : Fin 1024) (h : ∃ k, M (ix2 r k) = 1#1) : M (ix2 r (pick M r)) = 1#1 := by
  obtain ⟨k, hk⟩ := h
  have h1 := (pick_first M r).le k
  by_contra h2
  unfold scores score at h1
  rw [if_pos hk, if_neg h2] at h1
  omega

end Cert.Proof

end
-- ==== Proof.RefResult.lean ====
/-
  The reference's run: its two results, row by row.
-/
module

public import proofs.«01_k».proof.Proof.RefOut
public import proofs.«01_k».proof.Proof.Answer

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable (m : (ℓ : Loc nD τ sig) → Buf (Elt Ideal) ℓ)

/-- The mask. -/
abbrev maskOf (c : Dev nD) : Mask := m ((c : Thread nD τ).loc main_arg0)

/-- The mask, as the operations read it. -/
theorem mask_eq (c : Dev nD) : read (launchContents m c) maskR = maskOf m c := rfl

/-- The actions, as the operations leave them. -/
theorem action_eq (V : Valuation τ sig (Elt Ideal)) : (V (Proc.devRef .tc main_v10) : IVec S1024 32) = read V actionR := rfl

/-- The log probabilities, as the operations leave them. -/
theorem logProb_eq (V : Valuation τ sig (Elt Ideal)) : (V (Proc.devRef .tc main_v14) : FVec Ideal S1024 .f32) = read V logProbR := rfl

/-- The reference's run from a mask with an allowed action in each row: both results, and the arguments unchanged. -/
theorem run (ρ : Dev nD → PrngReg) (hm : ∀ c r, ∃ k, maskOf m c (ValueIdx.ix2 r k) = 1#1) :
    θ_run defs (onTc (τ := τ) (main (F := Ideal))) ⟨m, fun _ => 0, ρ⟩ (fun r => ∀ c : Dev nD,
      r.2.mem ((c.tc : Thread nD τ).loc main_v10) = (fun j => BitVec.ofNat 32 (pick (maskOf m c) (j 0)).val : IVec S1024 32)
      ∧ r.2.mem ((c.tc : Thread nD τ).loc main_v14) = (fun j => logProb (allowed (maskOf m c) (j 0)) : FVec Ideal S1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      have e := args_eq (launchContents m c)
      have hf (j : S1024.Idx) := pick_first (maskOf m c) (j 0)
      have ha (j : S1024.Idx) := pick_allowed (maskOf m c) (j 0) (hm c (j 0))
      ⟨(h c main_v10).trans ((action_eq _).trans (funext fun j => action_at (launchContents m c) j _ (hf j) (ha j))),
        (h c main_v14).trans ((logProb_eq _).trans (funext fun j => logProb_at (launchContents m c) j _ (hf j) (ha j))),
        (h c main_arg0).trans e.1, (h c main_arg1).trans e.2.1, (h c main_arg2).trans e.2.2⟩)
    (run_main m ρ)

end Cert.Proof.Ref

end
-- ==== Proof.KernelWords.lean ====
/-
  The kernel's words of a block of eight rows: the draw of each of the block's elements.
-/
module

public import proofs.«01_k».proof.Proof.Gen.KernelIdeal.Frame
public import proofs.«01_k».proof.Proof.Words
public import Idealize.ShloMosaic.Lib.ValueIdx

@[expose] public section

noncomputable section

namespace Cert.Proof.Ker

open Cert.KernelIdeal Cert.KernelIdeal.Gen Cert.Proof.Words
open Idealize.ShloMosaic

/-- A block of words, one for each element of the block. -/
abbrev Block := IVec S8x100000 32

/-- One round on a pair of blocks, as the kernel computes it. -/
def round (a b : W) (p : Block × Block) : Block × Block :=
  (addi p.1 p.2, xori (ori (shli p.2 (broadcast S8x100000 a)) (shrui p.2 (broadcast S8x100000 b))) (addi p.1 p.2))

/-- A constant added to each block of a pair. -/
def plus (a b : W) (p : Block × Block) : Block × Block := (addi p.1 (broadcast S8x100000 a), addi p.2 (broadcast S8x100000 b))

/-- A constant added to each word of a pair. -/
def bump (a b : W) (p : W × W) : W × W := (p.1 + a, p.2 + b)

/-- The two words at an element. -/
def pairAt (p : Block × Block) (e : S8x100000.Idx) : W × W := (p.1 e, p.2 e)

/-- Two words combined, and the upper 23 bits kept, as the kernel computes it. -/
def upper (p : Block × Block) : Block := shrui (xori p.1 p.2) (broadcast S8x100000 9#32)

/-- A round on blocks is the round on the two words at each element. -/
theorem round_at (a b : W) (ha : a.toNat < 32) (hb : b.toNat < 32) (p : Block × Block) (e : S8x100000.Idx) :
    pairAt (round a b p) e = mix a b (pairAt p e) := by
  have h1 : shli p.2 (broadcast S8x100000 a) e = p.2 e <<< a := if_pos ha
  have h2 : shrui p.2 (broadcast S8x100000 b) e = p.2 e >>> b := if_pos hb
  refine Prod.ext rfl ?_
  show (shli p.2 (broadcast S8x100000 a) e ||| shrui p.2 (broadcast S8x100000 b) e) ^^^ (p.1 e + p.2 e) = _
  rw [h1, h2]
  exact BitVec.xor_comm _ _

/-- Adding constants to blocks adds them to the two words at each element. -/
theorem plus_at (a b : W) (p : Block × Block) (e : S8x100000.Idx) : pairAt (plus a b p) e = bump a b (pairAt p e) := rfl

/-- The upper 23 bits of combined blocks, at an element. -/
theorem upper_at (p : Block × Block) (e : S8x100000.Idx) : upper p e = top (pairAt p e) := by
  have h (w : W) : IntOp.shrui .vector w 9#32 = w >>> 9#32 := if_pos (by decide)
  exact h _

/-! ## The kernel's payloads are those rounds -/

/-- The first four rounds of the kernel. -/
theorem rounds1 (i : grid0.Coords) : (k0_pay11 i, k0_pay12 i)
    = round 6#32 26#32 (round 26#32 6#32 (round 15#32 17#32 (round 13#32 19#32
        (addi (broadcast S8x100000 0#32) (broadcast S8x100000 0#32), k0_pay4 i)))) := rfl

/-- The next injection, four rounds, injection and one round. -/
theorem rounds2 (u v : Block) : (k0_pay22 u v, k0_pay23 u v)
    = round 13#32 19#32 (plus 466689008#32 2#32 (round 24#32 8#32 (round 16#32 16#32 (round 29#32 3#32 (round 17#32 15#32
        (plus 42#32 466689009#32 (u, v))))))) := rfl

/-- The next three rounds, injection and three rounds. -/
theorem rounds3 (u v : Block) : (k0_pay35 v (addi u v) k0_pay25, k0_pay36 v (addi u v) k0_pay25)
    = round 16#32 16#32 (round 29#32 3#32 (round 17#32 15#32 (plus 0#32 45#32
        (round 6#32 26#32 (round 26#32 6#32 (round 15#32 17#32 (u, v))))))) := rfl

/-- The last round of a group, an injection, four rounds, the last injection, and the upper bits. -/
theorem rounds4 (u v : Block) : k0_pay39 v (addi u v) k0_pay38
    = upper (plus 466689008#32 5#32 (round 6#32 26#32 (round 26#32 6#32 (round 15#32 17#32 (round 13#32 19#32
        (plus 42#32 466689012#32 (round 24#32 8#32 (u, v)))))))) := rfl

/-- The block of draws, as the kernel computes it. -/
def drawBlock (i : grid0.Coords) (x : Vec Ideal S8x100000 .i32) : Block :=
  k0_pay39 (k0_pay36 (k0_pay44 i x) (k0_pay45 i x) (k0_pay46 i x)) (k0_pay37 (k0_pay44 i x) (k0_pay45 i x) (k0_pay46 i x)) k0_pay38

/-- An injection adds a key word to one word, and another key word and the number of the injection to the other. -/
theorem inject_eq (k0 k1 n : W) (p : W × W) : inject k0 k1 n p = bump k0 (k1 + n) p :=
  congrArg (Prod.mk _) (BitVec.add_assoc _ _ _)

/-- The block of draws as twenty rounds on the block of numbers. -/
theorem drawBlock_eq (i : grid0.Coords) (x : Vec Ideal S8x100000 .i32) :
    drawBlock i x
      = upper (plus 466689008#32 5#32 (round 6#32 26#32 (round 26#32 6#32 (round 15#32 17#32 (round 13#32 19#32
        (plus 42#32 466689012#32 (round 24#32 8#32
        (round 16#32 16#32 (round 29#32 3#32 (round 17#32 15#32 (plus 0#32 45#32
        (round 6#32 26#32 (round 26#32 6#32 (round 15#32 17#32
        (round 13#32 19#32 (plus 466689008#32 2#32 (round 24#32 8#32 (round 16#32 16#32 (round 29#32 3#32 (round 17#32 15#32
        (plus 42#32 466689009#32
        (round 6#32 26#32 (round 26#32 6#32 (round 15#32 17#32 (round 13#32 19#32
        (addi (broadcast S8x100000 0#32) (broadcast S8x100000 0#32), k0_pay4 i)))))))))))))))))))))))))) := by
  rw [← rounds1, ← rounds2, ← rounds3, ← rounds4]
  rfl

/-- The kernel's number of an element, with the key's second word added. -/
theorem number_at (i : grid0.Coords) (e : S8x100000.Idx) :
    k0_pay4 i e = number (8 * (i 0).val + (e 0).val) (e 1).val + 42#32 := by
  have h : k0_pay4 i e = (BitVec.ofNat 32 (i 0).val * 8#32 + BitVec.ofNat 32 (0 * 8 + (e 0).val)) * 100000#32
      + BitVec.ofNat 32 (0 * 100000 + (e 1).val) + 42#32 := rfl
  rw [h, number]
  congr 1
  apply BitVec.eq_of_toNat_eq
  simp only [BitVec.toNat_add, BitVec.toNat_mul, BitVec.toNat_ofNat]
  have h0 : (i 0).val < 128 := (i 0).isLt
  have h1 : (e 0).val < 8 := (e 0).isLt
  have h2 : (e 1).val < 100000 := (e 1).isLt
  omega

/-- The kernel's draw of an element. -/
theorem drawBlock_at (i : grid0.Coords) (x : Vec Ideal S8x100000 .i32) (e : S8x100000.Idx) :
    drawBlock i x e = draw (8 * (i 0).val + (e 0).val) (e 1).val := by
  rw [drawBlock_eq, upper_at]
  simp (disch := decide) only [round_at, plus_at]
  have h0 : pairAt (addi (broadcast S8x100000 0#32) (broadcast S8x100000 0#32), k0_pay4 i) e
      = bump 0#32 42#32 (0#32, number (8 * (i 0).val + (e 0).val) (e 1).val) := Prod.ext rfl (number_at i e)
  rw [h0]
  unfold draw threefry oddRounds evenRounds
  simp only [inject_eq]
  rfl

end Cert.Proof.Ker

end
-- ==== Proof.KernelRow.lean ====
/-
  The kernel's two results in a row of a block, from the row's mask and draws: the first allowed column of the largest draw, and minus
  the logarithm of the number of allowed columns.
-/
module

public import proofs.«01_k».proof.Proof.KernelWords
public import proofs.«01_k».proof.Proof.First
public import proofs.«01_k».proof.Proof.RowSoft
public import Idealize.ShloMosaic.Lib.SortNet.Extract

@[expose] public section

noncomputable section

namespace Cert.Proof.Ker

open Cert.KernelIdeal Cert.KernelIdeal.Gen Cert.Proof.Words
open Idealize.ShloMosaic Idealize.ShloMosaic.ValueIdx

/-- The element of row `r` in column `k`. -/
abbrev el8 (r : Fin 8) (k : Fin 100000) : S8x100000.Idx := ix2 r k

/-- The element of a block row at a reduced column is the one at that row and column. -/
theorem lift8 (r : Fin 8) (k : Fin 100000) : reduces_S8x100000_S8.lift (ix1 r) k = el8 r k := by
  funext c
  match c with
  | ⟨0, _⟩ => rfl
  | ⟨1, _⟩ => rfl

/-- A reduction of the rows of a block, as a fold over the columns. -/
theorem reduce_row (kind : IKind) (acc : BitVec 32) (h : acc = kind.neutral) (d : Block) (r : Fin 8) :
    multiReductionI kind [1] S8 d acc reduces_S8x100000_S8 h (ix1 r)
      = (Finset.univ : Finset (Fin 100000)).fold kind.op acc (fun k => d (el8 r k)) := by
  have h1 := multiReductionI_eq_fold kind d acc reduces_S8x100000_S8 h (ix1 r)
  rw [reduces_S8x100000_S8.fold_filter_drop_single] at h1
  have e : d ∘ reduces_S8x100000_S8.lift (ix1 r) = fun k => d (el8 r k) := funext fun k => congrArg d (lift8 r k)
  rw [e] at h1
  exact h1

/-- A column of one value per row, at a row. -/
theorem stand_at (v : IVec S8 32) (r : Fin 8) : shapeCast S8x1 v shapeCasts_S8_S8x1 (ix2 r (0 : Fin 1)) = v (ix1 r) := by
  refine shapeCast_apply _ _ _ _ ?_
  rw [Shape.rowMajor_val_two, Shape.rowMajor_val_one]
  show r.val = r.val * 1 + 0
  omega

/-- A column spread over the rows, at an element. -/
theorem fill_at (v : IVec S8x1 32) (r : Fin 8) (k : Fin 100000) :
    broadcastTo S8x100000 v broadcasts_S8x1_S8x100000 (el8 r k) = v (ix2 r (0 : Fin 1)) := by
  refine congrArg v (funext fun c => ?_)
  match c with
  | ⟨0, _⟩ => rfl
  | ⟨1, _⟩ => rfl

/-- The largest word of a family, in integers. -/
theorem max_eq {n : ℕ} (f : Fin n → BitVec 32) (a : Fin n) (h : ∀ k, (f k).toInt ≤ (f a).toInt) :
    Finset.univ.fold IntOp.maxsi 2147483648#32 f = f a := by
  obtain ⟨-, h2, h3⟩ := SortNet.fold_maxsi_spec f Finset.univ 2147483648#32
  apply BitVec.eq_of_toInt_eq
  apply le_antisymm
  · rcases h3 with h3 | ⟨k, -, h3⟩
    · rw [h3]
      have := BitVec.le_toInt (f a)
      simpa using this
    · rw [h3]; exact h k
  · exact h2 a (Finset.mem_univ a)

/-- The smallest word of a family, in integers. -/
theorem min_eq {n : ℕ} (f : Fin n → BitVec 32) (a : Fin n) (h : ∀ k, (f a).toInt ≤ (f k).toInt) :
    Finset.univ.fold IntOp.minsi 2147483647#32 f = f a := by
  have e : (Finset.univ.fold IntOp.minsi 2147483647#32 f).toInt = Finset.univ.fold min (2147483647 : ℤ) (fun k => (f k).toInt) :=
    (Finset.fold_hom (m := BitVec.toInt) (fun x y => SortNet.toInt_minsi x y)).symm
  apply BitVec.eq_of_toInt_eq
  rw [e]
  apply le_antisymm
  · exact (Finset.fold_min_le _).mpr (Or.inr ⟨a, Finset.mem_univ a, le_rfl⟩)
  · refine (Finset.le_fold_min _).mpr ⟨?_, fun k _ => h k⟩
    have := BitVec.toInt_lt (x := f a)
    simp at this
    omega

/-- The column numbers. -/
abbrev cols : Block := iota .tc S8x100000 32 [1] iota_S8x100000_d1_w32

/-- The column number of an element. -/
theorem cols_at (r : Fin 8) (k : Fin 100000) : cols (el8 r k) = BitVec.ofNat 32 k.val :=
  congrArg (BitVec.ofNat 32) (by show 0 * 100000 + k.val = k.val; omega)

/-- The draws, with -1 where the mask is False. -/
def marked (m : IVec S8x100000 1) (d : Block) : Block := select m d k0_pay40

/-- Each row's largest of them. -/
def top8 (m : IVec S8x100000 1) (d : Block) : IVec S8x1 32 :=
  shapeCast S8x1 (multiReductionI .maxsi [1] S8 (marked m d) 2147483648#32 reduces_S8x100000_S8 rfl) shapeCasts_S8_S8x1

/-- The columns where a row's largest draw lies, and 100000 elsewhere. -/
def places (m : IVec S8x100000 1) (d : Block) : Block :=
  select (andi (cmpi .eq (marked m d) (broadcastTo S8x100000 (top8 m d) broadcasts_S8x1_S8x100000)) m) cols (broadcast S8x100000 100000#32)

/-- The first of them in each row. -/
def first8 (m : IVec S8x100000 1) (d : Block) : IVec S8x1 32 :=
  shapeCast S8x1 (multiReductionI .minsi [1] S8 (places m d) 2147483647#32 reduces_S8x100000_S8 rfl) shapeCasts_S8_S8x1

/-- What the kernel writes as actions: the first marked column where the largest marked draw is not negative, else zero. -/
theorem pay1_eq (m : IVec S8x100000 1) (d : Block) :
    k0_pay1 m cols d k0_pay40 = select (cmpi .sge (top8 m d) (broadcast S8x1 0#32)) (first8 m d) (broadcast S8x1 0#32) := rfl

variable (m : IVec S8x100000 1) (d : Block) (r : Fin 8) (hd : ∀ k, (d (el8 r k)).toNat < 2 ^ 23)

/-- A word of 23 bits is the same number with and without sign. -/
theorem word_toInt (w : W) (h : w.toNat < 2 ^ 23) : w.toInt = w.toNat := by
  apply BitVec.toInt_eq_toNat_of_lt
  omega

include hd in
/-- A marked draw is the element's score. -/
theorem marked_at (k : Fin 100000) : (marked m d (el8 r k)).toInt = score (m (el8 r k)) (d (el8 r k)) := by
  have e : marked m d (el8 r k) = Scalar.select (m (el8 r k)) (d (el8 r k)) 4294967295#32 := rfl
  rw [e, score]
  rcases BitVec.eq_zero_or_eq_one (m (el8 r k)) with h | h
  · rw [h]; rfl
  · rw [h, if_pos rfl]
    exact word_toInt _ (hd k)

variable (a : Fin 100000) (hf : IsFirst (fun k => score (m (el8 r k)) (d (el8 r k))) a) (ha : m (el8 r a) = 1#1)

include hd hf in
/-- The largest marked draw of a row is the one at the first column of the largest score. -/
theorem top8_at : top8 m d (ix2 r (0 : Fin 1)) = marked m d (el8 r a) := by
  unfold top8
  refine (stand_at _ r).trans ((reduce_row .maxsi _ rfl (marked m d) r).trans ?_)
  refine max_eq (fun k => marked m d (el8 r k)) a fun k => ?_
  show (marked m d (el8 r k)).toInt ≤ (marked m d (el8 r a)).toInt
  rw [marked_at m d r hd, marked_at m d r hd]
  exact hf.le k

include hd hf in
/-- The column number where an allowed element attains the largest marked draw, else the number of columns. -/
theorem places_at (k : Fin 100000) : places m d (el8 r k)
    = if marked m d (el8 r k) = marked m d (el8 r a) ∧ m (el8 r k) = 1#1 then BitVec.ofNat 32 k.val else 100000#32 := by
  have e : places m d (el8 r k) = Scalar.select (IntOp.andi (IntOp.cmpi .eq (marked m d (el8 r k))
      (broadcastTo S8x100000 (top8 m d) broadcasts_S8x1_S8x100000 (el8 r k))) (m (el8 r k))) (cols (el8 r k)) 100000#32 := rfl
  rw [e, fill_at, top8_at m d r hd a hf, cols_at]
  generalize marked m d (el8 r k) = u
  generalize marked m d (el8 r a) = v
  by_cases huv : u = v
  · subst huv
    rcases BitVec.eq_zero_or_eq_one (m (el8 r k)) with h | h <;> rw [h] <;> simp [IntOp.andi, IntOp.cmpi, Scalar.select]
  · have h : (u == v) = false := beq_eq_false_iff_ne.mpr huv
    simp [IntOp.andi, IntOp.cmpi, Scalar.select, huv, h]

include hd hf ha in
/-- The least of these column numbers in a row is the first column of the largest score. -/
theorem first8_at : first8 m d (ix2 r (0 : Fin 1)) = BitVec.ofNat 32 a.val := by
  have hp := places_at m d r hd a hf
  have hpa : places m d (el8 r a) = BitVec.ofNat 32 a.val := by rw [hp a, if_pos ⟨rfl, ha⟩]
  unfold first8
  refine (stand_at _ r).trans ((reduce_row .minsi _ rfl (places m d) r).trans ?_)
  refine (min_eq (fun k => places m d (el8 r k)) a fun k => ?_).trans hpa
  show (places m d (el8 r a)).toInt ≤ (places m d (el8 r k)).toInt
  rw [hpa, hp k, Ref.column_toInt a.val a.isLt]
  split
  · rename_i h
    rw [Ref.column_toInt k.val k.isLt]
    have h2 := congrArg BitVec.toInt h.1
    rw [marked_at m d r hd, marked_at m d r hd] at h2
    rcases hf k with h3 | h3
    · exact absurd h2 h3.ne
    · exact_mod_cast h3.2
  · have := a.isLt
    show (a.val : ℤ) ≤ 100000
    omega

include hd hf ha in
/-- The kernel's action in a row with an allowed column: the first allowed column of the largest draw. -/
theorem pay1_at : k0_pay1 m cols d k0_pay40 (ix2 r (0 : Fin 1)) = BitVec.ofNat 32 a.val := by
  rw [pay1_eq]
  have e : select (cmpi .sge (top8 m d) (broadcast S8x1 0#32)) (first8 m d) (broadcast S8x1 0#32) (ix2 r (0 : Fin 1))
      = Scalar.select (IntOp.cmpi .sge (top8 m d (ix2 r (0 : Fin 1))) 0#32) (first8 m d (ix2 r (0 : Fin 1))) 0#32 := rfl
  rw [e, first8_at m d r hd a hf ha, top8_at m d r hd a hf]
  have h0 : (0 : ℤ) ≤ (marked m d (el8 r a)).toInt := by
    rw [marked_at m d r hd, ha, score, if_pos rfl]
    exact Int.natCast_nonneg _
  generalize marked m d (el8 r a) = u at h0
  simp [IntOp.cmpi, BitVec.sle, Scalar.select, h0]

/-! ## The number of allowed columns -/

/-- The sum of a family of bits, as words, is the word of the number of ones. -/
theorem count_eq {n : ℕ} (f : Fin n → BitVec 1) :
    Finset.univ.fold IntOp.addi 0#32 (fun k => (f k).setWidth 32) = BitVec.ofNat 32 (Finset.univ.filter fun k => f k = 1#1).card := by
  have e : (fun k => (f k).setWidth 32) = fun k => BitVec.ofNat 32 (if f k = 1#1 then 1 else 0) := by
    funext k
    rcases BitVec.eq_zero_or_eq_one (f k) with h | h <;> rw [h] <;> rfl
  have h1 := Finset.fold_hom (op := fun a b : ℕ => a + b) (op' := IntOp.addi) (m := BitVec.ofNat 32) (b := 0)
    (s := (Finset.univ : Finset (Fin n))) (f := fun k => if f k = 1#1 then 1 else 0) (fun x y => BitVec.ofNat_add x y)
  rw [e]
  refine h1.trans (congrArg (BitVec.ofNat 32) ?_)
  rw [Finset.card_filter]
  rfl

/-- The number of each row's allowed columns. -/
def count8 (m : IVec S8x100000 1) : IVec S8x1 32 :=
  shapeCast S8x1 (multiReductionI .add [1] S8 (extui 32 m natLt_1_32) 0#32 reduces_S8x100000_S8 rfl) shapeCasts_S8_S8x1

/-- The count of a row is the number of its allowed columns. -/
theorem count8_at : count8 m (ix2 r (0 : Fin 1)) = BitVec.ofNat 32 (Finset.univ.filter fun k => m (el8 r k) = 1#1).card := by
  unfold count8
  refine (stand_at _ r).trans ((reduce_row .add _ rfl (extui 32 m natLt_1_32) r).trans ?_)
  exact count_eq fun k => m (el8 r k)

/-- What the kernel writes as log probabilities: zero minus the logarithm of the count. -/
theorem pay2_eq : k0_pay2 (F := Ideal) m
    = subf (broadcast S8x1 (Scalar.ofBits .f32 0x00000000#32)) (log (sitofp .f32 (count8 m))) := rfl

/-- The kernel's log probability of a row: minus the logarithm of the number of the row's allowed columns. -/
theorem pay2_at : (k0_pay2 (F := Ideal) m (ix2 r (0 : Fin 1)) : EReal)
    = Ref.logProb (Finset.univ.filter fun k => m (el8 r k) = 1#1).card := by
  have hc : (Finset.univ.filter fun k => m (el8 r k) = 1#1).card ≤ 100000 :=
    (Finset.card_le_univ _).trans (Fintype.card_fin _).le
  have h := count8_at m r
  generalize (Finset.univ.filter fun k => m (el8 r k) = 1#1).card = n at h hc ⊢
  rw [pay2_eq]
  have e : (subf (broadcast S8x1 (Scalar.ofBits .f32 0x00000000#32)) (log (sitofp .f32 (count8 m))) : FVec Ideal S8x1 .f32) (ix2 r (0 : Fin 1))
      = (Ideal.ofBits .f32 0x00000000#32 - Ideal.log (((count8 m (ix2 r (0 : Fin 1))).toInt : ℝ) : EReal) : EReal) := rfl
  rw [e, h]
  have h0 : Ideal.ofBits .f32 0x00000000#32 = (0 : EReal) := by simp [Ideal.ofBits, Ideal.ieee]
  have hn : (BitVec.ofNat 32 n).toInt = n := by
    rw [BitVec.toInt_eq_toNat_of_lt, BitVec.toNat_ofNat, Nat.mod_eq_of_lt (by omega)]
    rw [BitVec.toNat_ofNat, Nat.mod_eq_of_lt (by omega)]
    omega
  rw [h0, hn, Ref.logProb, Int.cast_natCast]

end Cert.Proof.Ker

end
-- ==== Proof.KernelOut.lean ====
/-
  The kernel's two results: each row's answer, from the blocks of eight rows that the grid writes.
-/
module

public import proofs.«01_k».proof.Proof.KernelRow
public import proofs.«01_k».proof.Proof.Answer
public import Idealize.ShloMosaic.Lib.Pipeline.Value
public import Idealize.ShloMosaic.Lib.Pipeline.ValueKit
public import Idealize.ShloMosaic.Lib.StableHlo.RunRead

@[expose] public section

noncomputable section

namespace Cert.Proof.Ker

open Cert.KernelIdeal Cert.KernelIdeal.Gen Cert.Proof.Words
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The mask. -/
abbrev maskOf : Mask := m ((c : Thread nD τ).loc main_arg0)

/-- The kernel's operand: the mask as words. -/
theorem operand_eq : (V m c main_v0 : IVec S1024x100000 32) = extui 32 (maskOf m c) natLt_1_32 := by
  unfold V V0
  after_reads_simp

/-- The row of the arrays that row `r` of block `t` is. -/
def rowOf (t : Fin cfg0.N) (r : Fin 8) : Fin 1024 :=
  ⟨8 * t.val + r.val, by have h : t.val < 128 := N_0 ▸ t.isLt; have := r.isLt; omega⟩

/-- Block `t` of the operand is the `t`-th of the rows, over all columns. -/
theorem index0 (t : Fin cfg0.N) : win0_0.index t 0 = t.val ∧ win0_0.index t 1 = 0 :=
  (by decide +kernel : ∀ t : Fin cfg0.N, win0_0.index t 0 = t.val ∧ win0_0.index t 1 = 0) t

/-- Block `t` of the actions is the `t`-th. -/
theorem index1 (t : Fin cfg0.N) : win0_1.index t 0 = t.val :=
  (by decide +kernel : ∀ t : Fin cfg0.N, win0_1.index t 0 = t.val) t

/-- Block `t` of the log probabilities is the `t`-th. -/
theorem index2 (t : Fin cfg0.N) : win0_2.index t 0 = t.val :=
  (by decide +kernel : ∀ t : Fin cfg0.N, win0_2.index t 0 = t.val) t

/-- Where an element of an operand's block lies in the operand. -/
theorem place0 (t : Fin cfg0.N) (r : Fin 8) (k : Fin 100000) (a : Fin 2) :
    ((win0_0.blk t).view.emb (el8 r k) a).val = (ValueIdx.ix2 (rowOf t r) k a).val := by
  match a with
  | 0 =>
    blk_simp
    rw [(index0 t).1]
    exact congrArg (· + r.val) (Nat.mul_comm _ _)
  | 1 =>
    blk_simp
    rw [(index0 t).2]
    exact (congrArg (· + k.val) (Nat.zero_mul _)).trans (Nat.zero_add _)

/-- The word the kernel reads for an element. -/
theorem block_at (t : Fin cfg0.N) (r : Fin 8) (k : Fin 100000) :
    iblk m c 0 t (el8 r k) = (maskOf m c (ValueIdx.ix2 (rowOf t r) k)).setWidth 32 := by
  have h : iblk m c 0 t (el8 r k) = V m c main_v0 (ValueIdx.ix2 (rowOf t r) k) := by
    blk_simp [iblk]
    exact congrArg (V m c main_v0) (funext fun a => Fin.ext (place0 t r k a))
  rw [h]
  exact congrFun (operand_eq m c) _

/-- The two offsets of a whole block are zero. -/
theorem hz : (![0, 0] : Fin 2 → Nat) = fun _ => 0 := funext fun a => by fin_cases a <;> rfl

/-- The mask's bit that the kernel finds for an element. -/
theorem bit_at (t : Fin cfg0.N) (r : Fin 8) (k : Fin 100000) :
    k0_pay41 (grid0.coords t) (iblk m c 0 t) (el8 r k) = maskOf m c (ValueIdx.ix2 (rowOf t r) k) := by
  unfold k0_pay41
  rw [View.ld_unit_zero hz]
  show IntOp.cmpi .ne (iblk m c 0 t (el8 r k)) 0#32 = _
  rw [block_at]
  rcases BitVec.eq_zero_or_eq_one (maskOf m c (ValueIdx.ix2 (rowOf t r) k)) with h | h <;> rw [h] <;> rfl

/-- The coordinate of a grid point is its number. -/
theorem coords_eq (t : Fin cfg0.N) : (grid0.coords t 0).val = t.val :=
  (by decide +kernel : ∀ t : Fin cfg0.N, (grid0.coords t 0).val = t.val) t

/-- The kernel's draw for an element. -/
theorem draw_at (t : Fin cfg0.N) (r : Fin 8) (k : Fin 100000) :
    drawBlock (grid0.coords t) (iblk m c 0 t) (el8 r k) = draw (rowOf t r).val k.val := by
  rw [drawBlock_at, coords_eq]
  rfl

variable (hm : ∀ r, ∃ k, maskOf m c (ValueIdx.ix2 r k) = 1#1)

include hm in
/-- The action the kernel writes for a row of a block. -/
theorem out_action (t : Fin cfg0.N) (r : Fin 8) :
    out0_1 (grid0.coords t) (iblk m c 0 t) (ValueIdx.ix2 r (0 : Fin 1)) = BitVec.ofNat 32 (pick (maskOf m c) (rowOf t r)).val := by
  unfold out0_1
  rw [View.canon_unit_zero hz]
  refine pay1_at (k0_pay41 (grid0.coords t) (iblk m c 0 t)) (drawBlock (grid0.coords t) (iblk m c 0 t)) r (fun k => ?_) _ ?_ ?_
  · rw [draw_at]; exact draw_lt _ _
  · have e : (fun k => score (k0_pay41 (grid0.coords t) (iblk m c 0 t) (el8 r k)) (drawBlock (grid0.coords t) (iblk m c 0 t) (el8 r k)))
        = scores (maskOf m c) (rowOf t r) := funext fun k => by rw [bit_at, draw_at]; rfl
    rw [e]
    exact pick_first _ _
  · rw [bit_at]
    exact pick_allowed _ _ (hm _)

/-- The log probability the kernel writes for a row of a block. -/
theorem out_logProb (t : Fin cfg0.N) (r : Fin 8) :
    (out0_2 (grid0.coords t) (iblk m c 0 t) (ValueIdx.ix2 r (0 : Fin 1)) : EReal) = Ref.logProb (allowed (maskOf m c) (rowOf t r)) := by
  unfold out0_2
  rw [View.canon_unit_zero hz]
  refine (pay2_at (k0_pay41 (grid0.coords t) (iblk m c 0 t)) r).trans ?_
  simp only [bit_at]
  rfl

include hm in
/-- The array of actions after the run. -/
theorem actions_eq : (dats m 0 c).arrAt 1 cfg0.N = (fun i => BitVec.ofNat 32 (pick (maskOf m c) (i 0)).val : IVec S1024x1 32) := by
  refine (dats m 0 c).arrAt_eq_of_covers 1 _ (by decide +kernel) fun t hf y => ?_
  blk_simp
  rw [after0_1]
  obtain ⟨r, z, rfl⟩ : ∃ (r : Fin 8) (z : Fin 1), y = ValueIdx.ix2 r z := ⟨y 0, y 1, funext fun a => by fin_cases a <;> rfl⟩
  obtain rfl : z = 0 := Subsingleton.elim _ _
  refine (out_action m c hm t r).trans ?_
  have e : (win0_1.blk t).view.emb (ValueIdx.ix2 r (0 : Fin 1)) 0 = rowOf t r := Fin.ext (by
    blk_simp
    rw [index1]
    exact congrArg (· + r.val) (Nat.mul_comm _ _))
  rw [e]

/-- The array of log probabilities after the run. -/
theorem logProbs_eq : (dats m 0 c).arrAt 2 cfg0.N = (fun i => Ref.logProb (allowed (maskOf m c) (i 0)) : FVec Ideal S1024x1 .f32) := by
  refine (dats m 0 c).arrAt_eq_of_covers 2 _ (by decide +kernel) fun t hf y => ?_
  blk_simp
  rw [after0_2]
  obtain ⟨r, z, rfl⟩ : ∃ (r : Fin 8) (z : Fin 1), y = ValueIdx.ix2 r z := ⟨y 0, y 1, funext fun a => by fin_cases a <;> rfl⟩
  obtain rfl : z = 0 := Subsingleton.elim _ _
  refine (out_logProb m c t r).trans ?_
  have e : (win0_2.blk t).view.emb (ValueIdx.ix2 r (0 : Fin 1)) 0 = rowOf t r := Fin.ext (by
    blk_simp
    rw [index2]
    exact congrArg (· + r.val) (Nat.mul_comm _ _))
  rw [e]

end Cert.Proof.Ker

end
-- ==== Proof.KernelRun.lean ====
/-
  The kernel's run: its two results after the reshapes that follow the grid.
-/
module

public import proofs.«01_k».proof.Proof.KernelOut

@[expose] public section

noncomputable section

namespace Cert.Proof.Ker

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A column of 1024 rows read as a vector. -/
theorem column_vec {α : Type} (x : S1024x1.Idx → α) (j : S1024.Idx) :
    shapeCast S1024 x shapeCasts_S1024x1_S1024 j = x (ValueIdx.ix2 (j 0) (0 : Fin 1)) := by
  refine shapeCast_apply _ _ _ _ ?_
  rw [Shape.rowMajor_val_two, Shape.rowMajor_val_one]
  show (j 0).val * 1 + 0 = (j 0).val
  omega

/-- The actions, after the reshape. -/
theorem result_action (hm : ∀ r, ∃ k, maskOf m c (ValueIdx.ix2 r k) = 1#1) :
    (Pipeline.afterTail₀ cfgs (dats m) 0 (V0 m) [hostOps1] c main_v2 : IVec S1024 32)
      = fun j => BitVec.ofNat 32 (pick (maskOf m c) (j 0)).val := by
  unfold Pipeline.afterTail₀
  after_reads_simp
  funext j
  refine (column_vec _ j).trans ?_
  have h := (Pipeline.withArrays_arr spec0 (by decide) c (V0 m c) (fun w => (dats m 0 c).arrAt w cfg0.N) 1).trans (actions_eq m c hm)
  exact congrFun h _

/-- The log probabilities, after the reshape. -/
theorem result_logProb :
    (Pipeline.afterTail₀ cfgs (dats m) 0 (V0 m) [hostOps1] c main_v3 : FVec Ideal S1024 .f32)
      = fun j => Ref.logProb (allowed (maskOf m c) (j 0)) := by
  unfold Pipeline.afterTail₀
  after_reads_simp
  funext j
  refine (column_vec _ j).trans ?_
  have h := (Pipeline.withArrays_arr spec0 (by decide) c (V0 m c) (fun w => (dats m 0 c).arrAt w cfg0.N) 2).trans (logProbs_eq m c)
  exact congrFun h _

/-- The kernel's run from a mask with an allowed action in each row: both results, and the arguments unchanged. -/
theorem run (ρ : Dev nD → PrngReg) (hm : ∀ c r, ∃ k, maskOf m c (ValueIdx.ix2 r k) = 1#1) :
    θ_run defs (onTc (τ := τ) (main (F := Ideal))) ⟨m, fun _ => 0, ρ⟩ (fun r => ∀ c : Dev nD,
      r.2.mem ((c.tc : Thread nD τ).loc main_v2) = (fun j => BitVec.ofNat 32 (pick (maskOf m c) (j 0)).val : IVec S1024 32)
      ∧ r.2.mem ((c.tc : Thread nD τ).loc main_v3) = (fun j => Ref.logProb (allowed (maskOf m c) (j 0)) : FVec Ideal S1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    have g (b) (hb : b ∈ _) := (h c).2 b hb
    ⟨(g main_v2 (Pipeline.mem_restRefs_of main_v2 (by decide) (by decide))).trans (result_action m c (hm c)),
      (g main_v3 (Pipeline.mem_restRefs_of main_v3 (by decide) (by decide))).trans (result_logProb m c),
      (g main_arg0 (Pipeline.mem_restRefs_of main_arg0 (by decide) (by decide))).trans (W_main_arg0 m (dats m) c),
      (g main_arg1 (Pipeline.mem_restRefs_of main_arg1 (by decide) (by decide))).trans (W_main_arg1 m (dats m) c),
      (g main_arg2 (Pipeline.mem_restRefs_of main_arg2 (by decide) (by decide))).trans (W_main_arg2 m (dats m) c)⟩)
    (run_main m ρ)

end Cert.Proof.Ker

end
-- ==== Proof.Allowed.lean ====
/-
  The precondition: every row of the mask has an allowed action.
-/
module

public import proofs.«01_k».proof.Defs
public import proofs.«01_k».proof.Proof.Answer
public import Idealize.ShloMosaic.Lib.Pipeline.Value

@[expose] public section

noncomputable section

namespace Cert.Pre_row_has_action.Gen

open Idealize.ShloMosaic

/-- The side conditions the precondition states. -/
theorem facts : Facts where
  reducesTo_S1024x100000_S1024_d1 := by decide
  h_S_ := by decide

end Cert.Pre_row_has_action.Gen

namespace Cert.Proof

open Cert.Pre_row_has_action Idealize.ShloMosaic Idealize.ShloMosaic.ValueIdx

/-- The disjunction of bits is commutative. -/
instance : Std.Commutative (IntOp.ori (w := 1)) := ⟨BitVec.or_comm⟩
/-- The disjunction of bits is associative. -/
instance : Std.Associative (IntOp.ori (w := 1)) := ⟨BitVec.or_assoc⟩

/-- A disjunction over finitely many bits that is one has a bit that is one. -/
theorem exists_of_fold {ι : Type} (s : Finset ι) (v : ι → BitVec 1) (h : s.fold IntOp.ori 0#1 v = 1#1) : ∃ k, v k = 1#1 := by
  classical
  induction s using Finset.induction_on with
  | empty => exact absurd h (by simp)
  | insert a s ha ih =>
    rw [Finset.fold_insert ha] at h
    rcases BitVec.eq_zero_or_eq_one (v a) with e | e
    · rw [e] at h
      exact ih ((BitVec.zero_or).symm.trans h)
    · exact ⟨a, e⟩

/-- The columns of the mask reduce to its rows. -/
theorem mask_rows : S1024x100000.Reduces [1] S1024 := by decide

/-- The element of a row at a reduced column is the one at that row and column. -/
theorem mask_lift (j : S1024.Idx) (k : Fin 100000) : mask_rows.lift j k = ix2 (j 0) k := by
  funext c
  match c with
  | ⟨0, _⟩ => rfl
  | ⟨1, _⟩ => rfl

/-- The precondition says that each row of the mask has an allowed column. -/
theorem exists_allowed [hPre : Facts] {F : FTy → Type} [FloatOps F] (M : Mask) (x : FVec F S100000x1 .f32) (y : FVec F S100000 .f32)
    (h : fn M x y = fun _ => 1#1) (r : Fin 1024) : ∃ k, M (ix2 r k) = 1#1 := by
  have h1 := (Host.reduce_eq_fold IntOp.ori M (constantI S_ 1 0#1) Facts.reducesTo_S1024x100000_S1024_d1 Facts.h_S_ (ix1 r)).symm.trans
    (congrFun h (ix1 r))
  rw [Shape.ReducesTo.drop_eq_drop Facts.reducesTo_S1024x100000_S1024_d1 mask_rows, mask_rows.fold_filter_drop_single] at h1
  obtain ⟨k, hk⟩ := exists_of_fold _ _ h1
  exact ⟨k, (congrArg M (mask_lift (ix1 r) k)).symm.trans hk⟩

end Cert.Proof

end
-- ==== Proof.lean ====
/-
  The certificate's proof: the frames of the kernel, of its idealization and of the reference, and that the idealized kernel
  and the reference compute the same actions and the same log probabilities.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefResult
public import proofs.«01_k».proof.Proof.KernelRun
public import proofs.«01_k».proof.Proof.Allowed
public import Idealize.ShloMosaic.Adequacy
public import Idealize.ShloMosaic.Init

@[expose] public section

noncomputable section

namespace Cert.Proof

open Idealize.ShloMosaic Idealize.SL.Sem Cert.Kernel

/-- From memories that agree on the arguments, whose mask has an allowed action in each row, the idealized kernel and the
    reference end with the same actions and the same log probabilities, and with their arguments unchanged. -/
theorem algebraic : Cert.algebraic_KernelIdeal_ReferenceIdeal_pre_row_has_action (hKernelIdeal := Cert.KernelIdeal.Gen.facts)
    (hReferenceIdeal := Cert.ReferenceIdeal.Gen.facts) (hPre_row_has_action := Cert.Pre_row_has_action.Gen.facts) := by
  intro m ρ m' ρ' hpre hagree
  have hm (c r) : ∃ k, Ker.maskOf m c (ValueIdx.ix2 r k) = 1#1 :=
    exists_allowed (hPre := Cert.Pre_row_has_action.Gen.facts) _ _ _ (hpre c) r
  have hM (c) : Ref.maskOf m' c = Ker.maskOf m c := (hagree c).1
  have hm' (c r) : ∃ k, Ref.maskOf m' c (ValueIdx.ix2 r k) = 1#1 := by
    rw [hM]
    exact hm c r
  refine ⟨_, _, Ker.run m ρ hm, (θ_run _ _ _).mono (fun _ h c => ⟨(h c).1.trans ?_, (h c).2.1.trans ?_, (h c).2.2⟩) (Ref.run m' ρ' hm')⟩
  · rw [hM]
  · rw [hM]

/-- Every claim of the certificate. -/
theorem claim : Cert.Claim :=
  ⟨Cert.Kernel.Gen.facts, Cert.KernelIdeal.Gen.facts, Cert.ReferenceIdeal.Gen.facts, Cert.Pre_row_has_action.Gen.facts,
    fun m ρ _ => Cert.Kernel.Gen.frame m ρ, fun m ρ _ => Cert.KernelIdeal.Gen.frame m ρ, fun m ρ _ => Cert.KernelIdeal.Gen.frame m ρ,
    fun m ρ _ => Cert.Proof.Ref.frame m ρ, fun m ρ _ => Cert.Proof.Ref.frame m ρ, trivial, algebraic⟩

end Cert.Proof

end
